-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_first_in_reach [hPre_first_in_reach : Cert.Pre_first_in_reach.Facts] (m : (ℓ : Loc Cert.KernelIdeal.nD Cert.KernelIdeal.τ Cert.KernelIdeal.sig) → Buf (Elt Ideal) ℓ) : Prop :=
  ∀ c : Dev Cert.KernelIdeal.nD,
    (Cert.Pre_first_in_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_first_in_reach [hPre_first_in_reach : Cert.Pre_first_in_reach.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_first_in_reach.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_first_in_reach [hKernelIdeal : Cert.KernelIdeal.Facts] [hPre_first_in_reach : Cert.Pre_first_in_reach.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_first_in_reach m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_first_in_reach [hReferenceIdeal : Cert.ReferenceIdeal.Facts] [hPre_first_in_reach : Cert.Pre_first_in_reach.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_first_in_reach m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_first_in_reach [hKernelIdeal : Cert.KernelIdeal.Facts] [hReferenceIdeal : Cert.ReferenceIdeal.Facts] [hPre_first_in_reach : Cert.Pre_first_in_reach.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_first_in_reach m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v14)) (v5 : (c : Dev Cert.KernelIdeal.nD) → Buf (Elt Ideal) ((c.tc : Thread Cert.KernelIdeal.nD Cert.KernelIdeal.τ).loc Cert.KernelIdeal.main_v17)) (v6 : (c : Dev Cert.KernelIdeal.nD) → Buf (Elt Ideal) ((c.tc : Thread Cert.KernelIdeal.nD Cert.KernelIdeal.τ).loc Cert.KernelIdeal.main_v20)) (v7 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v14) = v4 c
          ∧ r.2.mem ((c.tc : Thread Cert.KernelIdeal.nD Cert.KernelIdeal.τ).loc Cert.KernelIdeal.main_v17) = v5 c
          ∧ r.2.mem ((c.tc : Thread Cert.KernelIdeal.nD Cert.KernelIdeal.τ).loc Cert.KernelIdeal.main_v20) = v6 c
          ∧ r.2.mem ((c.tc : Thread Cert.KernelIdeal.nD Cert.KernelIdeal.τ).loc Cert.KernelIdeal.main_v23) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_v49) = v3 c
          ∧ r.2.mem ((c.tc : Thread Cert.ReferenceIdeal.nD Cert.ReferenceIdeal.τ).loc Cert.ReferenceIdeal.main_v84) = v4 c
          ∧ r.2.mem ((c.tc : Thread Cert.ReferenceIdeal.nD Cert.ReferenceIdeal.τ).loc Cert.ReferenceIdeal.main_v91) = v5 c
          ∧ r.2.mem ((c.tc : Thread Cert.ReferenceIdeal.nD Cert.ReferenceIdeal.τ).loc Cert.ReferenceIdeal.main_v87) = v6 c
          ∧ r.2.mem ((c.tc : Thread Cert.ReferenceIdeal.nD Cert.ReferenceIdeal.τ).loc Cert.ReferenceIdeal.main_v96) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def algebraic_KernelIdeal_ReferenceIdeal_on_index_in_reach [hKernelIdeal : Cert.KernelIdeal.Facts] [hReferenceIdeal : Cert.ReferenceIdeal.Facts] [hOn_index_in_reach : Cert.On_index_in_reach.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v14)) (v5 : (c : Dev Cert.KernelIdeal.nD) → Buf (Elt Ideal) ((c.tc : Thread Cert.KernelIdeal.nD Cert.KernelIdeal.τ).loc Cert.KernelIdeal.main_v17)) (v6 : (c : Dev Cert.KernelIdeal.nD) → Buf (Elt Ideal) ((c.tc : Thread Cert.KernelIdeal.nD Cert.KernelIdeal.τ).loc Cert.KernelIdeal.main_v20)) (v7 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![4, 5000, 500]⟩ : Shape).Idx, (Cert.On_index_in_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v3_0) i = v0 c i)
          ∧ (∀ i : (⟨2, ![4, 500]⟩ : Shape).Idx, (Cert.On_index_in_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v6) i = v1 c i)
          ∧ (∀ i : (⟨2, ![4, 500]⟩ : Shape).Idx, (Cert.On_index_in_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.KernelIdeal.nD Cert.KernelIdeal.τ).loc Cert.KernelIdeal.main_v9) i = v2 c i)
          ∧ (∀ i : (⟨2, ![4, 500]⟩ : Shape).Idx, (Cert.On_index_in_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 i = 1#1 → r.2.mem ((c.tc : Thread Cert.KernelIdeal.nD Cert.KernelIdeal.τ).loc Cert.KernelIdeal.main_v11) i = v3 c i)
          ∧ (∀ i : (⟨2, ![4, 500]⟩ : Shape).Idx, (Cert.On_index_in_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 i = 1#1 → r.2.mem ((c.tc : Thread Cert.KernelIdeal.nD Cert.KernelIdeal.τ).loc Cert.KernelIdeal.main_v14) i = v4 c i)
          ∧ (∀ i : (⟨2, ![4, 500]⟩ : Shape).Idx, (Cert.On_index_in_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.1 i = 1#1 → r.2.mem ((c.tc : Thread Cert.KernelIdeal.nD Cert.KernelIdeal.τ).loc Cert.KernelIdeal.main_v17) i = v5 c i)
          ∧ (∀ i : (⟨2, ![4, 500]⟩ : Shape).Idx, (Cert.On_index_in_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.1 i = 1#1 → r.2.mem ((c.tc : Thread Cert.KernelIdeal.nD Cert.KernelIdeal.τ).loc Cert.KernelIdeal.main_v20) i = v6 c i)
          ∧ (∀ i : (⟨2, ![4, 5000]⟩ : Shape).Idx, (Cert.On_index_in_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2 i = 1#1 → r.2.mem ((c.tc : Thread Cert.KernelIdeal.nD Cert.KernelIdeal.τ).loc Cert.KernelIdeal.main_v23) i = v7 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![4, 5000, 500]⟩ : Shape).Idx, (Cert.On_index_in_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v21) i = v0 c i)
          ∧ (∀ i : (⟨2, ![4, 500]⟩ : Shape).Idx, (Cert.On_index_in_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v65) i = v1 c i)
          ∧ (∀ i : (⟨2, ![4, 500]⟩ : Shape).Idx, (Cert.On_index_in_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.ReferenceIdeal.nD Cert.ReferenceIdeal.τ).loc Cert.ReferenceIdeal.main_v69) i = v2 c i)
          ∧ (∀ i : (⟨2, ![4, 500]⟩ : Shape).Idx, (Cert.On_index_in_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 i = 1#1 → r.2.mem ((c.tc : Thread Cert.ReferenceIdeal.nD Cert.ReferenceIdeal.τ).loc Cert.ReferenceIdeal.main_v49) i = v3 c i)
          ∧ (∀ i : (⟨2, ![4, 500]⟩ : Shape).Idx, (Cert.On_index_in_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 i = 1#1 → r.2.mem ((c.tc : Thread Cert.ReferenceIdeal.nD Cert.ReferenceIdeal.τ).loc Cert.ReferenceIdeal.main_v84) i = v4 c i)
          ∧ (∀ i : (⟨2, ![4, 500]⟩ : Shape).Idx, (Cert.On_index_in_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.1 i = 1#1 → r.2.mem ((c.tc : Thread Cert.ReferenceIdeal.nD Cert.ReferenceIdeal.τ).loc Cert.ReferenceIdeal.main_v91) i = v5 c i)
          ∧ (∀ i : (⟨2, ![4, 500]⟩ : Shape).Idx, (Cert.On_index_in_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.1 i = 1#1 → r.2.mem ((c.tc : Thread Cert.ReferenceIdeal.nD Cert.ReferenceIdeal.τ).loc Cert.ReferenceIdeal.main_v87) i = v6 c i)
          ∧ (∀ i : (⟨2, ![4, 5000]⟩ : Shape).Idx, (Cert.On_index_in_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2 i = 1#1 → r.2.mem ((c.tc : Thread Cert.ReferenceIdeal.nD Cert.ReferenceIdeal.τ).loc Cert.ReferenceIdeal.main_v96) i = v7 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_first_in_reach : Cert.Pre_first_in_reach.Facts) (hOn_index_in_reach : Cert.On_index_in_reach.Facts),
    quiescent_Kernel (hKernel := hKernel)
    ∧ quiescent_KernelIdeal (hKernelIdeal := hKernelIdeal)
    ∧ quiescent_KernelIdeal_pre_first_in_reach (hKernelIdeal := hKernelIdeal) (hPre_first_in_reach := hPre_first_in_reach)
    ∧ quiescent_ReferenceIdeal (hReferenceIdeal := hReferenceIdeal)
    ∧ quiescent_ReferenceIdeal_pre_first_in_reach (hReferenceIdeal := hReferenceIdeal) (hPre_first_in_reach := hPre_first_in_reach)
    ∧ preserves_Kernel_KernelIdeal
    ∧ algebraic_KernelIdeal_ReferenceIdeal_pre_first_in_reach (hKernelIdeal := hKernelIdeal) (hReferenceIdeal := hReferenceIdeal) (hPre_first_in_reach := hPre_first_in_reach)
    ∧ algebraic_KernelIdeal_ReferenceIdeal_on_index_in_reach (hKernelIdeal := hKernelIdeal) (hReferenceIdeal := hReferenceIdeal) (hOn_index_in_reach := hOn_index_in_reach)
-- ==== On_index_in_reach.lean ====
abbrev S4x5000x9 : Shape := ⟨3, ![4, 5000, 9]⟩
abbrev S4x5000 : Shape := ⟨2, ![4, 5000]⟩
abbrev S4x500x10 : Shape := ⟨3, ![4, 500, 10]⟩
abbrev S_ : Shape := ⟨0, ![]⟩
abbrev S4x5000x500 : Shape := ⟨3, ![4, 5000, 500]⟩
abbrev S4x500 : Shape := ⟨2, ![4, 500]⟩
abbrev S4x1x1 : Shape := ⟨3, ![4, 1, 1]⟩
abbrev S4x1 : Shape := ⟨2, ![4, 1]⟩
abbrev S4x500x1 : Shape := ⟨3, ![4, 500, 1]⟩

class Facts : Prop where
  bcast_S_S4x5000x500 : S_.BroadcastsInDim S4x5000x500 (![] : Fin 0 → Fin S4x5000x500.rank)
  bcast_S_S4x500 : S_.BroadcastsInDim S4x500 (![] : Fin 0 → Fin S4x500.rank)
  slices_S4x5000x9_S4x1x1_0_0_0 : S4x5000x9.Slices ![0, 0, 0] S4x1x1
  shapeCasts_S4x1x1_S4x1 : S4x1x1.ShapeCasts S4x1
  slices_S4x500x10_S4x500x1_0_0_0 : S4x500x10.Slices ![0, 0, 0] S4x500x1
  shapeCasts_S4x500x1_S4x500 : S4x500x1.ShapeCasts S4x500
  bcast_S4x1_S4x500_0_1 : S4x1.BroadcastsInDim S4x500 (![0, 1] : Fin 2 → Fin S4x500.rank)
  slices_S4x5000x9_S4x1x1_0_0_1 : S4x5000x9.Slices ![0, 0, 1] S4x1x1
  slices_S4x500x10_S4x500x1_0_0_1 : S4x500x10.Slices ![0, 0, 1] S4x500x1
  bcast_S_S4x5000 : S_.BroadcastsInDim S4x5000 (![] : Fin 0 → Fin S4x5000.rank)

variable [Facts]

def fn_part1 {F : FTy → Type} [FloatOps F] (main_v0 : IVec S4x5000x500 1) (main_v1 : IVec S4x500 1) (main_v19 : IVec S4x500 1) (main_c_1 : IVec S_ 1) : IVec S4x5000x500 1 × IVec S4x500 1 × IVec S4x500 1 × IVec S4x500 1 × IVec S4x500 1 × IVec S4x500 1 × IVec S4x500 1 × IVec S4x5000 1 :=
  let main_v20 : IVec S4x5000 1 := broadcastInDim S4x5000 ![] bcast_S_S4x5000 main_c_1
  (main_v0, main_v1, main_v1, main_v19, main_v1, main_v1, main_v1, main_v20)

def fn {F : FTy → Type} [FloatOps F] (main_arg0 : FVec F S4x5000x9 .f32) (main_arg1 : FVec F S4x5000 .f32) (main_arg2 : IVec S4x5000 32) (main_arg3 : FVec F S4x500x10 .f32) (main_arg4 : IVec S_ 32) : IVec S4x5000x500 1 × IVec S4x500 1 × IVec S4x500 1 × IVec S4x500 1 × IVec S4x500 1 × IVec S4x500 1 × IVec S4x500 1 × IVec S4x5000 1 :=
  let main_c : IVec S_ 1 := constantI S_ 1 1#1
  let main_v0 : IVec S4x5000x500 1 := broadcastInDim S4x5000x500 ![] bcast_S_S4x5000x500 main_c
  let main_c_0 : IVec S_ 1 := constantI S_ 1 1#1
  let main_v1 : IVec S4x500 1 := broadcastInDim S4x500 ![] bcast_S_S4x500 main_c_0
  let main_v2 : FVec F S4x1x1 .f32 := (extractStridedSlice S4x1x1 ![0, 0, 0] · slices_S4x5000x9_S4x1x1_0_0_0) main_arg0
  let main_v3 : FVec F S4x1 .f32 := shapeCast S4x1 main_v2 shapeCasts_S4x1x1_S4x1
  let main_v4 : FVec F S4x500x1 .f32 := (extractStridedSlice S4x500x1 ![0, 0, 0] · slices_S4x500x10_S4x500x1_0_0_0) main_arg3
  let main_v5 : FVec F S4x500 .f32 := shapeCast S4x500 main_v4 shapeCasts_S4x500x1_S4x500
  let main_v6 : FVec F S4x500 .f32 := broadcastInDim S4x500 ![0, 1] bcast_S4x1_S4x500_0_1 main_v3
  let main_v7 : FVec F S4x500 .f32 := subf main_v6 main_v5
  let main_v8 : FVec F S4x1x1 .f32 := (extractStridedSlice S4x1x1 ![0, 0, 1] · slices_S4x5000x9_S4x1x1_0_0_1) main_arg0
  let main_v9 : FVec F S4x1 .f32 := shapeCast S4x1 main_v8 shapeCasts_S4x1x1_S4x1
  let main_v10 : FVec F S4x500x1 .f32 := (extractStridedSlice S4x500x1 ![0, 0, 1] · slices_S4x500x10_S4x500x1_0_0_1) main_arg3
  let main_v11 : FVec F S4x500 .f32 := shapeCast S4x500 main_v10 shapeCasts_S4x500x1_S4x500
  let main_v12 : FVec F S4x500 .f32 := broadcastInDim S4x500 ![0, 1] bcast_S4x1_S4x500_0_1 main_v9
  let main_v13 : FVec F S4x500 .f32 := subf main_v12 main_v11
  let main_v14 : FVec F S4x500 .f32 := mulf main_v7 main_v7
  let main_v15 : FVec F S4x500 .f32 := mulf main_v13 main_v13
  let main_v16 : FVec F S4x500 .f32 := addf main_v14 main_v15
  let main_v17 : FVec F S4x500 .f32 := Host.sqrt main_v16
  let main_cst : FVec F S_ .f32 := constant S_ .f32 0x4E6E6B28#32
  let main_v18 : FVec F S4x500 .f32 := broadcastInDim S4x500 ![] bcast_S_S4x500 main_cst
  let main_v19 : IVec S4x500 1 := cmpf .ole main_v17 main_v18
  let main_c_1 : IVec S_ 1 := constantI S_ 1 1#1
  fn_part1 (F := F) main_v0 main_v1 main_v19 main_c_1
-- ==== Pre_first_in_reach.lean ====
abbrev S4x5000x9 : Shape := ⟨3, ![4, 5000, 9]⟩
abbrev S4x5000 : Shape := ⟨2, ![4, 5000]⟩
abbrev S4x500x10 : Shape := ⟨3, ![4, 500, 10]⟩
abbrev S_ : Shape := ⟨0, ![]⟩
abbrev S4x1x1 : Shape := ⟨3, ![4, 1, 1]⟩
abbrev S4x1 : Shape := ⟨2, ![4, 1]⟩
abbrev S4x500x1 : Shape := ⟨3, ![4, 500, 1]⟩
abbrev S4x500 : Shape := ⟨2, ![4, 500]⟩

class Facts : Prop where
  slices_S4x5000x9_S4x1x1_0_0_0 : S4x5000x9.Slices ![0, 0, 0] S4x1x1
  shapeCasts_S4x1x1_S4x1 : S4x1x1.ShapeCasts S4x1
  slices_S4x500x10_S4x500x1_0_0_0 : S4x500x10.Slices ![0, 0, 0] S4x500x1
  shapeCasts_S4x500x1_S4x500 : S4x500x1.ShapeCasts S4x500
  bcast_S4x1_S4x500_0_1 : S4x1.BroadcastsInDim S4x500 (![0, 1] : Fin 2 → Fin S4x500.rank)
  slices_S4x5000x9_S4x1x1_0_0_1 : S4x5000x9.Slices ![0, 0, 1] S4x1x1
  slices_S4x500x10_S4x500x1_0_0_1 : S4x500x10.Slices ![0, 0, 1] S4x500x1
  bcast_S_S4x500 : S_.BroadcastsInDim S4x500 (![] : Fin 0 → Fin S4x500.rank)

variable [Facts]

def fn {F : FTy → Type} [FloatOps F] (main_arg0 : FVec F S4x5000x9 .f32) (main_arg1 : FVec F S4x5000 .f32) (main_arg2 : IVec S4x5000 32) (main_arg3 : FVec F S4x500x10 .f32) (main_arg4 : IVec S_ 32) : IVec S4x500 1 :=
  let main_v0 : FVec F S4x1x1 .f32 := (extractStridedSlice S4x1x1 ![0, 0, 0] · slices_S4x5000x9_S4x1x1_0_0_0) main_arg0
  let main_v1 : FVec F S4x1 .f32 := shapeCast S4x1 main_v0 shapeCasts_S4x1x1_S4x1
  let main_v2 : FVec F S4x500x1 .f32 := (extractStridedSlice S4x500x1 ![0, 0, 0] · slices_S4x500x10_S4x500x1_0_0_0) main_arg3
  let main_v3 : FVec F S4x500 .f32 := shapeCast S4x500 main_v2 shapeCasts_S4x500x1_S4x500
  let main_v4 : FVec F S4x500 .f32 := broadcastInDim S4x500 ![0, 1] bcast_S4x1_S4x500_0_1 main_v1
  let main_v5 : FVec F S4x500 .f32 := subf main_v4 main_v3
  let main_v6 : FVec F S4x1x1 .f32 := (extractStridedSlice S4x1x1 ![0, 0, 1] · slices_S4x5000x9_S4x1x1_0_0_1) main_arg0
  let main_v7 : FVec F S4x1 .f32 := shapeCast S4x1 main_v6 shapeCasts_S4x1x1_S4x1
  let main_v8 : FVec F S4x500x1 .f32 := (extractStridedSlice S4x500x1 ![0, 0, 1] · slices_S4x500x10_S4x500x1_0_0_1) main_arg3
  let main_v9 : FVec F S4x500 .f32 := shapeCast S4x500 main_v8 shapeCasts_S4x500x1_S4x500
  let main_v10 : FVec F S4x500 .f32 := broadcastInDim S4x500 ![0, 1] bcast_S4x1_S4x500_0_1 main_v7
  let main_v11 : FVec F S4x500 .f32 := subf main_v10 main_v9
  let main_v12 : FVec F S4x500 .f32 := mulf main_v5 main_v5
  let main_v13 : FVec F S4x500 .f32 := mulf main_v11 main_v11
  let main_v14 : FVec F S4x500 .f32 := addf main_v12 main_v13
  let main_v15 : FVec F S4x500 .f32 := Host.sqrt main_v14
  let main_cst : FVec F S_ .f32 := constant S_ .f32 0x4E6E6B28#32
  let main_v16 : FVec F S4x500 .f32 := broadcastInDim S4x500 ![] bcast_S_S4x500 main_cst
  let main_v17 : IVec S4x500 1 := cmpf .ole main_v15 main_v16
  main_v17
-- ==== Kernel.lean ====
abbrev S4x5000x9 : Shape := ⟨3, ![4, 5000, 9]⟩
abbrev S4x5000 : Shape := ⟨2, ![4, 5000]⟩
abbrev S4x500x10 : Shape := ⟨3, ![4, 500, 10]⟩
abbrev S_ : Shape := ⟨0, ![]⟩
abbrev S4x5000x1 : Shape := ⟨3, ![4, 5000, 1]⟩
abbrev S4x10x500 : Shape := ⟨3, ![4, 10, 500]⟩
abbrev S4x5000x500 : Shape := ⟨3, ![4, 5000, 500]⟩
abbrev S4x1x500 : Shape := ⟨3, ![4, 1, 500]⟩
abbrev S1x1000x9 : Shape := ⟨3, ![1, 1000, 9]⟩
abbrev S1x1000x1 : Shape := ⟨3, ![1, 1000, 1]⟩
abbrev S1x10x500 : Shape := ⟨3, ![1, 10, 500]⟩
abbrev S1x1000x500 : Shape := ⟨3, ![1, 1000, 500]⟩
abbrev S1x1x500 : Shape := ⟨3, ![1, 1, 500]⟩
abbrev S1x500 : Shape := ⟨2, ![1, 500]⟩
abbrev S1000x9 : Shape := ⟨2, ![1000, 9]⟩
abbrev S1000x1 : Shape := ⟨2, ![1000, 1]⟩
abbrev S1000 : Shape := ⟨1, ![1000]⟩
abbrev S10x500 : Shape := ⟨2, ![10, 500]⟩
abbrev S500 : Shape := ⟨1, ![500]⟩
abbrev S1000x500 : Shape := ⟨2, ![1000, 500]⟩
abbrev S4x500 : Shape := ⟨2, ![4, 500]⟩

abbrev nBuf : Space → Nat
  | .hbm => 42
  | .vmem => 24
  | .smem => 0
  | _ => 0

abbrev bufTy : (tb : Table) → Fin (tcTables nBuf tb) → BufTy
  | .hbm, ⟨0, _⟩ => ⟨S4x5000x9, .f32⟩
  | .hbm, ⟨1, _⟩ => ⟨S4x5000, .f32⟩
  | .hbm, ⟨2, _⟩ => ⟨S4x5000, .i32⟩
  | .hbm, ⟨3, _⟩ => ⟨S4x500x10, .f32⟩
  | .hbm, ⟨4, _⟩ => ⟨S_, .i32⟩
  | .hbm, ⟨5, _⟩ => ⟨S4x5000, .f32⟩
  | .hbm, ⟨6, _⟩ => ⟨S4x5000x1, .f32⟩
  | .hbm, ⟨7, _⟩ => ⟨S4x10x500, .f32⟩
  | .hbm, ⟨8, _⟩ => ⟨S4x5000x500, .f32⟩
  | .hbm, ⟨9, _⟩ => ⟨S4x1x500, .f32⟩
  | .hbm, ⟨10, _⟩ => ⟨S4x1x500, .f32⟩
  | .hbm, ⟨11, _⟩ => ⟨S4x1x500, .f32⟩
  | .hbm, ⟨12, _⟩ => ⟨S4x1x500, .f32⟩
  | .hbm, ⟨13, _⟩ => ⟨S4x1x500, .f32⟩
  | .hbm, ⟨14, _⟩ => ⟨S4x1x500, .f32⟩
  | .hbm, ⟨15, _⟩ => ⟨S4x5000x1, .f32⟩
  | .hbm, ⟨16, _⟩ => ⟨S4x500, .f32⟩
  | .hbm, ⟨17, _⟩ => ⟨S_, .f32⟩
  | .hbm, ⟨18, _⟩ => ⟨S4x500, .f32⟩
  | .hbm, ⟨19, _⟩ => ⟨S4x500, .i1⟩
  | .hbm, ⟨20, _⟩ => ⟨S4x500, .f32⟩
  | .hbm, ⟨21, _⟩ => ⟨S_, .f32⟩
  | .hbm, ⟨22, _⟩ => ⟨S4x500, .f32⟩
  | .hbm, ⟨23, _⟩ => ⟨S4x500, .i1⟩
  | .hbm, ⟨24, _⟩ => ⟨S4x500, .f32⟩
  | .hbm, ⟨25, _⟩ => ⟨S4x500, .i32⟩
  | .hbm, ⟨26, _⟩ => ⟨S4x500, .f32⟩
  | .hbm, ⟨27, _⟩ => ⟨S_, .f32⟩
  | .hbm, ⟨28, _⟩ => ⟨S4x500, .f32⟩
  | .hbm, ⟨29, _⟩ => ⟨S4x500, .i1⟩
  | .hbm, ⟨30, _⟩ => ⟨S4x500, .f32⟩
  | .hbm, ⟨31, _⟩ => ⟨S_, .f32⟩
  | .hbm, ⟨32, _⟩ => ⟨S4x500, .f32⟩
  | .hbm, ⟨33, _⟩ => ⟨S4x500, .i1⟩
  | .hbm, ⟨34, _⟩ => ⟨S4x500, .f32⟩
  | .hbm, ⟨35, _⟩ => ⟨S_, .f32⟩
  | .hbm, ⟨36, _⟩ => ⟨S4x500, .f32⟩
  | .hbm, ⟨37, _⟩ => ⟨S4x500, .i1⟩
  | .hbm, ⟨38, _⟩ => ⟨S4x5000, .f32⟩
  | .hbm, ⟨39, _⟩ => ⟨S_, .f32⟩
  | .hbm, ⟨40, _⟩ => ⟨S4x5000, .f32⟩
  | .hbm, ⟨41, _⟩ => ⟨S4x5000, .i1⟩
  | .local _ .vmem, ⟨0, _⟩ => ⟨S1x1000x9, .f32⟩
  | .local _ .vmem, ⟨1, _⟩ => ⟨S1x1000x9, .f32⟩
  | .local _ .vmem, ⟨2, _⟩ => ⟨S1x1000x1, .f32⟩
  | .local _ .vmem, ⟨3, _⟩ => ⟨S1x1000x1, .f32⟩
  | .local _ .vmem, ⟨4, _⟩ => ⟨S1x10x500, .f32⟩
  | .local _ .vmem, ⟨5, _⟩ => ⟨S1x10x500, .f32⟩
  | .local _ .vmem, ⟨6, _⟩ => ⟨S1x1000x500, .f32⟩
  | .local _ .vmem, ⟨7, _⟩ => ⟨S1x1000x500, .f32⟩
  | .local _ .vmem, ⟨8, _⟩ => ⟨S1x1x500, .f32⟩
  | .local _ .vmem, ⟨9, _⟩ => ⟨S1x1x500, .f32⟩
  | .local _ .vmem, ⟨10, _⟩ => ⟨S1x1x500, .f32⟩
  | .local _ .vmem, ⟨11, _⟩ => ⟨S1x1x500, .f32⟩
  | .local _ .vmem, ⟨12, _⟩ => ⟨S1x1x500, .f32⟩
  | .local _ .vmem, ⟨13, _⟩ => ⟨S1x1x500, .f32⟩
  | .local _ .vmem, ⟨14, _⟩ => ⟨S1x1x500, .f32⟩
  | .local _ .vmem, ⟨15, _⟩ => ⟨S1x1x500, .f32⟩
  | .local _ .vmem, ⟨16, _⟩ => ⟨S1x1x500, .f32⟩
  | .local _ .vmem, ⟨17, _⟩ => ⟨S1x1x500, .f32⟩
  | .local _ .vmem, ⟨18, _⟩ => ⟨S1x1x500, .f32⟩
  | .local _ .vmem, ⟨19, _⟩ => ⟨S1x1x500, .f32⟩
  | .local _ .vmem, ⟨20, _⟩ => ⟨S1x1000x1, .f32⟩
  | .local _ .vmem, ⟨21, _⟩ => ⟨S1x1000x1, .f32⟩
  | .local _ .vmem, ⟨22, _⟩ => ⟨S1x500, .f32⟩
  | .local _ .vmem, ⟨23, _⟩ => ⟨S1x500, .f32⟩
  | _, _ => ⟨S4x5000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev main_v3_6 : Ref sig .tc := ⟨.hbm, 14, rfl⟩
abbrev main_v3_7 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 5], ![false, false]⟩

def k0_cond2 (i : grid0.Coords) : BitVec 1 :=
  let arg1 : BitVec 32 := BitVec.ofNat 32 (i 1).val
  let c4_i32 : BitVec 32 := 4#32
  let v149 : BitVec 1 := Scalar.cmpi .eq arg1 c4_i32
  let v150 : BitVec 32 := Scalar.extui v149
  let c0_i32_55 : BitVec 32 := 0#32
  let v151 : BitVec 1 := Scalar.cmpi .ne v150 c0_i32_55
  v151

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1000x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x10x500 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1000x500 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x500 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x500 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x500 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x500 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x500 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x500 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1000x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S4x5000x9 : Shape := ⟨3, ![4, 5000, 9]⟩
abbrev S4x5000 : Shape := ⟨2, ![4, 5000]⟩
abbrev S4x500x10 : Shape := ⟨3, ![4, 500, 10]⟩
abbrev S_ : Shape := ⟨0, ![]⟩
abbrev S10 : Shape := ⟨1, ![10]⟩
abbrev S4x500 : Shape := ⟨2, ![4, 500]⟩
abbrev S4x5000x2 : Shape := ⟨3, ![4, 5000, 2]⟩
abbrev S4x500x2 : Shape := ⟨3, ![4, 500, 2]⟩
abbrev S4x5000x1x2 : Shape := ⟨4, ![4, 5000, 1, 2]⟩
abbrev S4x1x500x2 : Shape := ⟨4, ![4, 1, 500, 2]⟩
abbrev S4x5000x500x2 : Shape := ⟨4, ![4, 5000, 500, 2]⟩
abbrev S4x5000x500 : Shape := ⟨3, ![4, 5000, 500]⟩
abbrev S4x5000x1 : Shape := ⟨3, ![4, 5000, 1]⟩
abbrev S4x1x500 : Shape := ⟨3, ![4, 1, 500]⟩
abbrev S4x500x1 : Shape := ⟨3, ![4, 500, 1]⟩

abbrev nBuf : Space → Nat
  | .hbm => 150
  | .vmem => 0
  | .smem => 0
  | _ => 0

abbrev hbmTy0_0 (i : Nat) : BufTy := match i % 128 with
  | 0 => ⟨S4x5000x9, .f32⟩
  | 1 => ⟨S4x5000, .f32⟩
  | 2 => ⟨S4x5000, .i32⟩
  | 3 => ⟨S4x500x10, .f32⟩
  | 4 => ⟨S_, .i32⟩
  | 5 => ⟨S10, .i32⟩
  | 6 => ⟨S10, .f32⟩
  | 7 => ⟨S10, .f32⟩
  | 8 => ⟨S_, .f32⟩
  | 9 => ⟨S4x5000, .f32⟩
  | 10 => ⟨S_, .f32⟩
  | 11 => ⟨S4x5000, .f32⟩
  | 12 => ⟨S4x5000, .i1⟩
  | 13 => ⟨S_, .f32⟩
  | 14 => ⟨S4x500, .f32⟩
  | 15 => ⟨S_, .f32⟩
  | 16 => ⟨S4x500, .f32⟩
  | 17 => ⟨S4x500, .i1⟩
  | 18 => ⟨S4x5000x2, .f32⟩
  | 19 => ⟨S4x500x2, .f32⟩
  | 20 => ⟨S4x5000x1x2, .f32⟩
  | 21 => ⟨S4x1x500x2, .f32⟩
  | 22 => ⟨S4x5000x500x2, .f32⟩
  | 23 => ⟨S4x5000x500x2, .f32⟩
  | 24 => ⟨S4x5000x500x2, .f32⟩
  | 25 => ⟨S4x5000x500x2, .f32⟩
  | 26 => ⟨S_, .f32⟩
  | 27 => ⟨S4x5000x500, .f32⟩
  | 28 => ⟨S4x5000x500, .f32⟩
  | 29 => ⟨S4x5000x1, .i1⟩
  | 30 => ⟨S4x1x500, .i1⟩
  | 31 => ⟨S4x5000x500, .i1⟩
  | 32 => ⟨S4x5000x500, .i1⟩
  | 33 => ⟨S4x5000x500, .i1⟩
  | 34 => ⟨S_, .f32⟩
  | 35 => ⟨S_, .f32⟩
  | 36 => ⟨S4x5000x500, .f32⟩
  | 37 => ⟨S4x5000x500, .f32⟩
  | 38 => ⟨S_, .i32⟩
  | 39 => ⟨S_, .i32⟩
  | 40 => ⟨S_, .i32⟩
  | 41 => ⟨S4x5000, .i32⟩
  | 42 => ⟨S4x5000, .i32⟩
  | 43 => ⟨S_, .i32⟩
  | 44 => ⟨S4x5000, .i32⟩
  | 45 => ⟨S4x5000, .i32⟩
  | 46 => ⟨S_, .i32⟩
  | 47 => ⟨S4x5000, .i32⟩
  | 48 => ⟨S4x5000, .i1⟩
  | 49 => ⟨S_, .i32⟩
  | 50 => ⟨S4x5000, .i32⟩
  | 51 => ⟨S4x5000, .i32⟩
  | 52 => ⟨S4x5000, .i32⟩
  | 53 => ⟨S4x5000x1, .i32⟩
  | 54 => ⟨S4x5000, .i32⟩
  | 55 => ⟨S4x500x1, .f32⟩
  | 56 => ⟨S4x500, .f32⟩
  | 57 => ⟨S4x500, .i32⟩
  | 58 => ⟨S_, .i32⟩
  | 59 => ⟨S_, .i32⟩
  | 60 => ⟨S_, .i32⟩
  | 61 => ⟨S4x500, .i32⟩
  | 62 => ⟨S4x500, .i32⟩
  | 63 => ⟨S_, .i32⟩
  | 64 => ⟨S4x500, .i32⟩
  | 65 => ⟨S4x500, .i32⟩
  | 66 => ⟨S_, .i32⟩
  | 67 => ⟨S4x500, .i32⟩
  | 68 => ⟨S4x500, .i1⟩
  | 69 => ⟨S_, .i32⟩
  | 70 => ⟨S4x500, .i32⟩
  | 71 => ⟨S4x500, .i32⟩
  | 72 => ⟨S4x500, .i32⟩
  | 73 => ⟨S4x500x1, .i32⟩
  | 74 => ⟨S4x500, .i32⟩
  | 75 => ⟨S4x5000x1, .i32⟩
  | 76 => ⟨S4x1x500, .i32⟩
  | 77 => ⟨S4x5000x500, .i32⟩
  | 78 => ⟨S4x5000x500, .i32⟩
  | 79 => ⟨S4x5000x500, .i1⟩
  | 80 => ⟨S4x5000x500, .i1⟩
  | 81 => ⟨S_, .f32⟩
  | 82 => ⟨S_, .f32⟩
  | 83 => ⟨S4x5000x500, .f32⟩
  | 84 => ⟨S4x5000x500, .f32⟩
  | 85 => ⟨S_, .f32⟩
  | 86 => ⟨S4x500, .f32⟩
  | 87 => ⟨S4x5000x500, .i32⟩
  | 88 => ⟨S_, .f32⟩
  | 89 => ⟨S_, .i32⟩
  | 90 => ⟨S4x500, .f32⟩
  | 91 => ⟨S4x500, .i32⟩
  | 92 => ⟨S_, .i32⟩
  | 93 => ⟨S4x500, .i32⟩
  | 94 => ⟨S4x500, .i1⟩
  | 95 => ⟨S_, .i32⟩
  | 96 => ⟨S4x500, .i32⟩
  | 97 => ⟨S4x500, .i32⟩
  | 98 => ⟨S4x500, .i32⟩
  | 99 => ⟨S4x500x1, .i32⟩
  | 100 => ⟨S4x500, .f32⟩
  | 101 => ⟨S_, .i32⟩
  | 102 => ⟨S4x500, .i32⟩
  | 103 => ⟨S4x500, .i1⟩
  | 104 => ⟨S_, .i32⟩
  | 105 => ⟨S4x500, .i32⟩
  | 106 => ⟨S4x500, .i32⟩
  | 107 => ⟨S4x500, .i32⟩
  | 108 => ⟨S4x500x1, .i32⟩
  | 109 => ⟨S4x500, .f32⟩
  | 110 => ⟨S4x500, .i1⟩
  | 111 => ⟨S4x500, .i1⟩
  | 112 => ⟨S4x500, .i1⟩
  | 113 => ⟨S4x500, .i1⟩
  | 114 => ⟨S4x500, .i1⟩
  | 115 => ⟨S4x500, .i1⟩
  | 116 => ⟨S4x500, .i1⟩
  | 117 => ⟨S4x500, .i1⟩
  | 118 => ⟨S4x500, .i1⟩
  | 119 => ⟨S4x500, .i1⟩
  | 120 => ⟨S4x500x1, .f32⟩
  | 121 => ⟨S4x500, .f32⟩
  | 122 => ⟨S4x500, .f32⟩
  | 123 => ⟨S4x500x1, .f32⟩
  | 124 => ⟨S4x500, .f32⟩
  | 125 => ⟨S4x500, .f32⟩
  | 126 => ⟨S4x500, .f32⟩
  | 127 => ⟨S4x500, .f32⟩
  | _ => ⟨S4x5000x9, .f32⟩

abbrev hbmTy0_1 (i : Nat) : BufTy := match i % 128 with
  | 0 => ⟨S_, .f32⟩
  | 1 => ⟨S4x500, .f32⟩
  | 2 => ⟨S4x500, .i1⟩
  | 3 => ⟨S4x500, .i1⟩
  | 4 => ⟨S_, .f32⟩
  | 5 => ⟨S4x500, .f32⟩
  | 6 => ⟨S4x500, .i1⟩
  | 7 => ⟨S4x500, .i1⟩
  | 8 => ⟨S4x500, .i1⟩
  | 9 => ⟨S4x500, .i1⟩
  | 10 => ⟨S4x500, .i1⟩
  | 11 => ⟨S4x500, .i1⟩
  | 12 => ⟨S_, .f32⟩
  | 13 => ⟨S_, .f32⟩
  | 14 => ⟨S4x5000x500, .f32⟩
  | 15 => ⟨S4x5000x500, .f32⟩
  | 16 => ⟨S_, .f32⟩
  | 17 => ⟨S4x5000, .f32⟩
  | 18 => ⟨S_, .f32⟩
  | 19 => ⟨S4x5000, .f32⟩
  | 20 => ⟨S4x5000, .i1⟩
  | 21 => ⟨S4x5000, .i1⟩
  | _ => ⟨S4x5000x9, .f32⟩

abbrev hbmTy (i : Nat) : BufTy := match i / 128 with
  | 0 => hbmTy0_0 i
  | 1 => hbmTy0_1 i
  | _ => ⟨S4x5000x9, .f32⟩

abbrev bufTy : (tb : Table) → Fin (tcTables nBuf tb) → BufTy
  | .hbm, ⟨i, _⟩ => hbmTy i
  | _, _ => ⟨S4x5000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_v0 : Ref sig .tc := ⟨.hbm, 9, rfl⟩
abbrev main_cst_2 : Ref sig .tc := ⟨.hbm, 10, rfl⟩
abbrev main_v1 : Ref sig .tc := ⟨.hbm, 11, rfl⟩
abbrev main_v2 : Ref sig .tc := ⟨.hbm, 12, rfl⟩
abbrev main_cst_3 : Ref sig .tc := ⟨.hbm, 13, rfl⟩
abbrev main_v3 : Ref sig .tc := ⟨.hbm, 14, rfl⟩
abbrev main_cst_4 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_5 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_call0_v0 : Ref sig .tc := ⟨.hbm, 35, rfl⟩
abbrev main_call0_v1 : Ref sig .tc := ⟨.hbm, 36, rfl⟩
abbrev main_v21 : Ref sig .tc := ⟨.hbm, 37, rfl⟩
abbrev main_c_7 : Ref sig .tc := ⟨.hbm, 38, rfl⟩
abbrev main_c_8 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v22 : Ref sig .tc := ⟨.hbm, 45, rfl⟩
abbrev main_c_9 : Ref sig .tc := ⟨.hbm, 46, rfl⟩
abbrev main_v23 : Ref sig .tc := ⟨.hbm, 47, rfl⟩
abbrev main_v24 : Ref sig .tc := ⟨.hbm, 48, rfl⟩
abbrev main_c_10 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_11 : Ref sig .tc := ⟨.hbm, 58, rfl⟩
abbrev main_c_12 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_v33 : Ref sig .tc := ⟨.hbm, 65, rfl⟩
abbrev main_c_13 : Ref sig .tc := ⟨.hbm, 66, rfl⟩
abbrev main_v34 : Ref sig .tc := ⟨.hbm, 67, rfl⟩
abbrev main_v35 : Ref sig .tc := ⟨.hbm, 68, rfl⟩
abbrev main_c_14 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_15 : Ref sig .tc := ⟨.hbm, 81, rfl⟩
abbrev main_call3_v0 : Ref sig .tc := ⟨.hbm, 82, rfl⟩
abbrev main_call3_v1 : Ref sig .tc := ⟨.hbm, 83, rfl⟩
abbrev main_v47 : Ref sig .tc := ⟨.hbm, 84, rfl⟩
abbrev main_cst_16 : Ref sig .tc := ⟨.hbm, 85, rfl⟩
abbrev main_v48 : Ref sig .tc := ⟨.hbm, 86, rfl⟩
abbrev main_call4_v0 : Ref sig .tc := ⟨.hbm, 87, rfl⟩
abbrev main_call4_cst : Ref sig .tc := ⟨.hbm, 88, rfl⟩
abbrev main_call4_c : Ref sig .tc := ⟨.hbm, 89, rfl⟩
abbrev main_call4_v1_0 : Ref sig .tc := ⟨.hbm, 90, rfl⟩
abbrev main_v49 : Ref sig .tc := ⟨.hbm, 91, rfl⟩
abbrev main_c_17 : Ref sig .tc := ⟨.hbm, 92, rfl⟩
abbrev main_v50 : Ref sig .tc := ⟨.hbm, 93, rfl⟩
abbrev main_v51 : Ref sig .tc := ⟨.hbm, 94, rfl⟩
abbrev main_c_18 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_c_19 : Ref sig .tc := ⟨.hbm, 101, rfl⟩
abbrev main_v57 : Ref sig .tc := ⟨.hbm, 102, rfl⟩
abbrev main_v58 : Ref sig .tc := ⟨.hbm, 103, rfl⟩
abbrev main_c_20 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_21 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_cst_22 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_cst_23 : Ref sig .tc := ⟨.hbm, 140, rfl⟩
abbrev main_call5_v0 : Ref sig .tc := ⟨.hbm, 141, rfl⟩
abbrev main_call5_v1 : Ref sig .tc := ⟨.hbm, 142, rfl⟩
abbrev main_v92 : Ref sig .tc := ⟨.hbm, 143, rfl⟩
abbrev main_cst_24 : Ref sig .tc := ⟨.hbm, 144, rfl⟩
abbrev main_v93 : Ref sig .tc := ⟨.hbm, 145, rfl⟩
abbrev main_cst_25 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩

abbrev nD : Nat := 1
abbrev τ : Topo := Topo.v7x

variable {F : FTy → Type} [FloatOps F]
-- ==== Proof.KBlock.lean ====
/- What the kernel's body leaves at one grid point, as terms over the point's blocks and the running minimum it carries. -/
module

public import proofs.«01_k».proof.Proof.Gen.KernelIdeal.Frame
public import Idealize.ShloMosaic.PureOps.Ideal
public import Idealize.ShloMosaic.PureOps.Ideal.Laws
public import Idealize.ShloMosaic.Lib.Pipeline.ValueKit
public import Idealize.ShloMosaic.Lib.Pipeline.ReadBack

@[expose] public section

noncomputable section

namespace Cert.KVal

open Cert.KernelIdeal Cert.KernelIdeal.Gen Idealize.ShloMosaic Idealize.ShloMosaic.TcCoe Idealize.SL.Sem Idealize.ShloMosaic.Pipeline

/-- The squared distances of a block of regions from a block of boxes. -/
abbrev sqB (X0 : FVec Ideal S1x1000x9 .f32) (X2 : FVec Ideal S1x10x500 .f32) : FVec Ideal S1000x500 .f32 :=
  k0_pay29 (k0_pay19 X0) (k0_pay20 X0) X2

/-- The distances a block of regions leaves. -/
abbrev distB (X0 : FVec Ideal S1x1000x9 .f32) (X2 : FVec Ideal S1x10x500 .f32) : FVec Ideal S1x1000x500 .f32 :=
  k0_pay32 (k0_pay21 (F := Ideal) X0) (k0_pay26 (F := Ideal) X2) (sqB X0 X2)

/-- The marks of the far regions a block leaves. -/
abbrev fpB (X0 : FVec Ideal S1x1000x9 .f32) (X2 : FVec Ideal S1x10x500 .f32) : FVec Ideal S1x1000x1 .f32 :=
  k0_pay2 (k0_pay21 (F := Ideal) X0) (k0_pay30 (sqB X0 X2)) (k0_pay31 (k0_pay21 (F := Ideal) X0) (k0_pay26 (F := Ideal) X2))

/-- The running minimum after a block, over the one before it. -/
abbrev minB (X0 : FVec Ideal S1x1000x9 .f32) (X1 : FVec Ideal S1x1000x1 .f32) (X2 : FVec Ideal S1x10x500 .f32)
    (p0 : FVec Ideal S1x500 .f32) : FVec Ideal S1x500 .f32 :=
  k0_pay1 (k0_pay34 (k0_pay22 (F := Ideal) X0 X1) (k0_pay28 (F := Ideal) X2) (sqB X0 X2)) (k0_pay37 (k0_pay22 (F := Ideal) X0 X1) (k0_pay28 (F := Ideal) X2) (sqB X0 X2) p0) p0

/-- Where the running minimum lies after a block, over where it lay before it. -/
abbrev argB (r : BitVec 32) (X0 : FVec Ideal S1x1000x9 .f32) (X1 : FVec Ideal S1x1000x1 .f32) (X2 : FVec Ideal S1x10x500 .f32)
    (p0 p1 : FVec Ideal S1x500 .f32) : FVec Ideal S1x500 .f32 :=
  k0_pay38 r (k0_pay22 (F := Ideal) X0 X1) (k0_pay28 (F := Ideal) X2) (sqB X0 X2) p0 p1

/-- The bits of the thresholds' first step. -/
abbrev five : Ideal .f32 := Scalar.ofBits .f32 0x40A00000#32

variable (m : (ℓ : Loc nD τ sig) → Buf (Elt Ideal) ℓ)

/-- The running minimum after point `n`. -/
abbrev run0 (c : Dev nD) (n : ℕ) (h : n < cfg0.N) : FVec Ideal S1x500 .f32 := (outsAt0 m c n h).2.2.2.2.2.2.2.2.1

/-- Where the running minimum lies after point `n`. -/
abbrev run1 (c : Dev nD) (n : ℕ) (h : n < cfg0.N) : FVec Ideal S1x500 .f32 := (outsAt0 m c n h).2.2.2.2.2.2.2.2.2

/-- The point before a point. -/
theorem pred_lt (t : Fin cfg0.N) : t.val - 1 < cfg0.N := Nat.lt_of_le_of_lt (Nat.sub_le _ _) t.isLt

set_option maxHeartbeats 4000000 in
/-- The distances the first tile leaves. -/
theorem dist_A (c : Dev nD) (t : Fin cfg0.N) (h0 : t.val % 5 = 0) :
    (outsAt0 m c t.val t.isLt).1 = distB (iblk m c 0 t) (iblk m c 2 t) := by
  rw [outsAt0_A m c t h0 (by omega)]
  dsimp only
  frame_out

set_option maxHeartbeats 4000000 in
/-- The far-from-every-box marks the first tile leaves. -/
theorem fp_A (c : Dev nD) (t : Fin cfg0.N) (h0 : t.val % 5 = 0) :
    (outsAt0 m c t.val t.isLt).2.2.2.2.2.2.2.1 = fpB (iblk m c 0 t) (iblk m c 2 t) := by
  rw [outsAt0_A m c t h0 (by omega)]
  dsimp only
  frame_out

set_option maxHeartbeats 4000000 in
/-- The running minimum the first tile leaves. -/
theorem run0_A (c : Dev nD) (t : Fin cfg0.N) (h0 : t.val % 5 = 0) :
    run0 m c t.val t.isLt = minB (iblk m c 0 t) (iblk m c 1 t) (iblk m c 2 t) k0_pay35 := by
  unfold run0
  rw [outsAt0_A m c t h0 (by omega)]
  dsimp only
  frame_out

set_option maxHeartbeats 4000000 in
/-- The running place the first tile leaves. -/
theorem run1_A (c : Dev nD) (t : Fin cfg0.N) (h0 : t.val % 5 = 0) :
    run1 m c t.val t.isLt = argB (BitVec.ofNat 32 ((grid0.coords t) 1)) (iblk m c 0 t) (iblk m c 1 t) (iblk m c 2 t) k0_pay35 k0_pay36 := by
  unfold run1
  rw [outsAt0_A m c t h0 (by omega)]
  dsimp only
  frame_out

set_option maxHeartbeats 4000000 in
/-- The distances a middle tile leaves. -/
theorem dist_B (c : Dev nD) (t : Fin cfg0.N) (h0 : ¬t.val % 5 = 0) (h1 : ¬t.val % 5 = 4) :
    (outsAt0 m c t.val t.isLt).1 = distB (iblk m c 0 t) (iblk m c 2 t) := by
  rw [outsAt0_B m c t h0 h1]
  dsimp only
  frame_out
  all_goals (try simp only [read_unread_whole])

set_option maxHeartbeats 4000000 in
/-- The far-from-every-box marks a middle tile leaves. -/
theorem fp_B (c : Dev nD) (t : Fin cfg0.N) (h0 : ¬t.val % 5 = 0) (h1 : ¬t.val % 5 = 4) :
    (outsAt0 m c t.val t.isLt).2.2.2.2.2.2.2.1 = fpB (iblk m c 0 t) (iblk m c 2 t) := by
  rw [outsAt0_B m c t h0 h1]
  dsimp only
  frame_out
  all_goals (try simp only [read_unread_whole])

set_option maxHeartbeats 4000000 in
/-- The running minimum a middle tile leaves. -/
theorem run0_B (c : Dev nD) (t : Fin cfg0.N) (h0 : ¬t.val % 5 = 0) (h1 : ¬t.val % 5 = 4) :
    run0 m c t.val t.isLt = minB (iblk m c 0 t) (iblk m c 1 t) (iblk m c 2 t) (run0 m c (t.val - 1) (pred_lt t)) := by
  unfold run0
  rw [outsAt0_B m c t h0 h1]
  dsimp only
  frame_out
  all_goals (try simp only [read_unread_whole])

set_option maxHeartbeats 4000000 in
/-- The running place a middle tile leaves. -/
theorem run1_B (c : Dev nD) (t : Fin cfg0.N) (h0 : ¬t.val % 5 = 0) (h1 : ¬t.val % 5 = 4) :
    run1 m c t.val t.isLt = argB (BitVec.ofNat 32 ((grid0.coords t) 1)) (iblk m c 0 t) (iblk m c 1 t) (iblk m c 2 t) (run0 m c (t.val - 1) (pred_lt t)) (run1 m c (t.val - 1) (pred_lt t)) := by
  unfold run1
  rw [outsAt0_B m c t h0 h1]
  dsimp only
  frame_out
  all_goals (try simp only [read_unread_whole])

set_option maxHeartbeats 4000000 in
/-- The distances the last tile leaves. -/
theorem dist_C (c : Dev nD) (t : Fin cfg0.N) (h1 : t.val % 5 = 4) :
    (outsAt0 m c t.val t.isLt).1 = distB (iblk m c 0 t) (iblk m c 2 t) := by
  rw [outsAt0_C m c t (by omega) h1]
  dsimp only
  frame_out
  all_goals (try simp only [read_unread_whole])

set_option maxHeartbeats 4000000 in
/-- The far-from-every-box marks the last tile leaves. -/
theorem fp_C (c : Dev nD) (t : Fin cfg0.N) (h1 : t.val % 5 = 4) :
    (outsAt0 m c t.val t.isLt).2.2.2.2.2.2.2.1 = fpB (iblk m c 0 t) (iblk m c 2 t) := by
  rw [outsAt0_C m c t (by omega) h1]
  dsimp only
  frame_out
  all_goals (try simp only [read_unread_whole])

set_option maxHeartbeats 4000000 in
/-- The running minimum the last tile leaves. -/
theorem run0_C (c : Dev nD) (t : Fin cfg0.N) (h1 : t.val % 5 = 4) :
    run0 m c t.val t.isLt = minB (iblk m c 0 t) (iblk m c 1 t) (iblk m c 2 t) (run0 m c (t.val - 1) (pred_lt t)) := by
  unfold run0
  rw [outsAt0_C m c t (by omega) h1]
  dsimp only
  frame_out
  all_goals (try simp only [read_unread_whole])

set_option maxHeartbeats 4000000 in
/-- The running place the last tile leaves. -/
theorem run1_C (c : Dev nD) (t : Fin cfg0.N) (h1 : t.val % 5 = 4) :
    run1 m c t.val t.isLt = argB (BitVec.ofNat 32 ((grid0.coords t) 1)) (iblk m c 0 t) (iblk m c 1 t) (iblk m c 2 t) (run0 m c (t.val - 1) (pred_lt t)) (run1 m c (t.val - 1) (pred_lt t)) := by
  unfold run1
  rw [outsAt0_C m c t (by omega) h1]
  dsimp only
  frame_out
  all_goals (try simp only [read_unread_whole])

set_option maxHeartbeats 4000000 in
/-- The high row the last tile leaves. -/
theorem fin4_C (c : Dev nD) (t : Fin cfg0.N) (h1 : t.val % 5 = 4) :
    (outsAt0 m c t.val t.isLt).2.1 = k0_pay16 (F := Ideal) (k0_pay26 (F := Ideal) (iblk m c 2 t)) (minB (iblk m c 0 t) (iblk m c 1 t) (iblk m c 2 t) (run0 m c (t.val - 1) (pred_lt t))) (k0_pay8 (F := Ideal) (k0_pay27 (F := Ideal) (iblk m c 2 t))) := by
  rw [outsAt0_C m c t (by omega) h1]
  dsimp only
  frame_out
  all_goals (try simp only [read_unread_whole])

set_option maxHeartbeats 4000000 in
/-- The medium row the last tile leaves. -/
theorem fin5_C (c : Dev nD) (t : Fin cfg0.N) (h1 : t.val % 5 = 4) :
    (outsAt0 m c t.val t.isLt).2.2.1 = k0_pay3 (F := Ideal) (k0_pay17 (F := Ideal) (k0_pay26 (F := Ideal) (iblk m c 2 t)) (k0_pay27 (F := Ideal) (iblk m c 2 t)) (minB (iblk m c 0 t) (iblk m c 1 t) (iblk m c 2 t) (run0 m c (t.val - 1) (pred_lt t))) (k0_pay8 (F := Ideal) (k0_pay27 (F := Ideal) (iblk m c 2 t))) five) := by
  rw [outsAt0_C m c t (by omega) h1]
  dsimp only
  frame_out
  all_goals (try simp only [read_unread_whole])

set_option maxHeartbeats 4000000 in
/-- The near row the last tile leaves. -/
theorem fin6_C (c : Dev nD) (t : Fin cfg0.N) (h1 : t.val % 5 = 4) :
    (outsAt0 m c t.val t.isLt).2.2.2.1 = k0_pay4 (F := Ideal) (k0_pay13 (F := Ideal) (k0_pay24 (F := Ideal) (iblk m c 2 t)) (k0_pay25 (F := Ideal) (iblk m c 2 t)) (k0_pay26 (F := Ideal) (iblk m c 2 t)) (k0_pay27 (F := Ideal) (iblk m c 2 t)) (minB (iblk m c 0 t) (iblk m c 1 t) (iblk m c 2 t) (run0 m c (t.val - 1) (pred_lt t))) (k0_pay8 (F := Ideal) (k0_pay27 (F := Ideal) (iblk m c 2 t))) five) := by
  rw [outsAt0_C m c t (by omega) h1]
  dsimp only
  frame_out
  all_goals (try simp only [read_unread_whole])

set_option maxHeartbeats 4000000 in
/-- The mid row the last tile leaves. -/
theorem fin7_C (c : Dev nD) (t : Fin cfg0.N) (h1 : t.val % 5 = 4) :
    (outsAt0 m c t.val t.isLt).2.2.2.2.1 = k0_pay5 (F := Ideal) (k0_pay15 (F := Ideal) (k0_pay24 (F := Ideal) (iblk m c 2 t)) (k0_pay25 (F := Ideal) (iblk m c 2 t)) (k0_pay26 (F := Ideal) (iblk m c 2 t)) (k0_pay27 (F := Ideal) (iblk m c 2 t)) (minB (iblk m c 0 t) (iblk m c 1 t) (iblk m c 2 t) (run0 m c (t.val - 1) (pred_lt t))) (k0_pay8 (F := Ideal) (k0_pay27 (F := Ideal) (iblk m c 2 t))) five) := by
  rw [outsAt0_C m c t (by omega) h1]
  dsimp only
  frame_out
  all_goals (try simp only [read_unread_whole])

set_option maxHeartbeats 4000000 in
/-- The far row the last tile leaves. -/
theorem fin8_C (c : Dev nD) (t : Fin cfg0.N) (h1 : t.val % 5 = 4) :
    (outsAt0 m c t.val t.isLt).2.2.2.2.2.1 = k0_pay6 (F := Ideal) (k0_pay14 (F := Ideal) (k0_pay24 (F := Ideal) (iblk m c 2 t)) (k0_pay25 (F := Ideal) (iblk m c 2 t)) (k0_pay26 (F := Ideal) (iblk m c 2 t)) (k0_pay27 (F := Ideal) (iblk m c 2 t)) (minB (iblk m c 0 t) (iblk m c 1 t) (iblk m c 2 t) (run0 m c (t.val - 1) (pred_lt t))) (k0_pay8 (F := Ideal) (k0_pay27 (F := Ideal) (iblk m c 2 t))) five) := by
  rw [outsAt0_C m c t (by omega) h1]
  dsimp only
  frame_out
  all_goals (try simp only [read_unread_whole])

set_option maxHeartbeats 4000000 in
/-- The best-place row the last tile leaves. -/
theorem fin9_C (c : Dev nD) (t : Fin cfg0.N) (h1 : t.val % 5 = 4) :
    (outsAt0 m c t.val t.isLt).2.2.2.2.2.2.1 = k0_pay7 (F := Ideal) (argB (BitVec.ofNat 32 ((grid0.coords t) 1)) (iblk m c 0 t) (iblk m c 1 t) (iblk m c 2 t) (run0 m c (t.val - 1) (pred_lt t)) (run1 m c (t.val - 1) (pred_lt t))) := by
  rw [outsAt0_C m c t (by omega) h1]
  dsimp only
  frame_out
  all_goals (try simp only [read_unread_whole])

end Cert.KVal

end
-- ==== Proof.Scal.lean ====
/- Facts about single numbers: the constants of the programs, the class of a box or region as an integer, its group and its
   thresholds, and the bits the programs pass around as numbers. -/
module

public import Idealize.ShloMosaic.PureOps.Ideal
public import Idealize.ShloMosaic.PureOps.Ideal.Laws
public import Idealize.ShloMosaic.Lib.Pointwise
public import Idealize.ShloMosaic.Lib.IdealHost

@[expose] public section

noncomputable section

namespace Cert.Scal

open Idealize.ShloMosaic

/-- The word of 1/2. -/
theorem c_half : Ideal.ofBits .f32 0x3F000000#32 = ((1/2 : ℝ) : EReal) := by
  simp [Ideal.ofBits, Ideal.ieee, -EReal.coe_mul, -EReal.coe_neg]; try norm_num

/-- The word of 3/2. -/
theorem c_three_half : Ideal.ofBits .f32 0x3FC00000#32 = ((3/2 : ℝ) : EReal) := by
  simp [Ideal.ofBits, Ideal.ieee, -EReal.coe_mul, -EReal.coe_neg]; try norm_num

/-- The word of 2. -/
theorem c_two : Ideal.ofBits .f32 0x40000000#32 = ((2 : ℝ) : EReal) := by
  simp [Ideal.ofBits, Ideal.ieee, -EReal.coe_mul, -EReal.coe_neg]; try norm_num

/-- The word of 5/2. -/
theorem c_two_half : Ideal.ofBits .f32 0x40200000#32 = ((5/2 : ℝ) : EReal) := by
  simp [Ideal.ofBits, Ideal.ieee, -EReal.coe_mul, -EReal.coe_neg]; try norm_num

/-- The word of 3. -/
theorem c_three : Ideal.ofBits .f32 0x40400000#32 = ((3 : ℝ) : EReal) := by
  simp [Ideal.ofBits, Ideal.ieee, -EReal.coe_mul, -EReal.coe_neg]; try norm_num

/-- The word of 7/2. -/
theorem c_seven_half : Ideal.ofBits .f32 0x40600000#32 = ((7/2 : ℝ) : EReal) := by
  simp [Ideal.ofBits, Ideal.ieee, -EReal.coe_mul, -EReal.coe_neg]; try norm_num

/-- The word of 4. -/
theorem c_four : Ideal.ofBits .f32 0x40800000#32 = ((4 : ℝ) : EReal) := by
  simp [Ideal.ofBits, Ideal.ieee, -EReal.coe_mul, -EReal.coe_neg]; try norm_num

/-- The word of 5. -/
theorem c_five : Ideal.ofBits .f32 0x40A00000#32 = ((5 : ℝ) : EReal) := by
  simp [Ideal.ofBits, Ideal.ieee, -EReal.coe_mul, -EReal.coe_neg]; try norm_num

/-- The word of 6. -/
theorem c_six : Ideal.ofBits .f32 0x40C00000#32 = ((6 : ℝ) : EReal) := by
  simp [Ideal.ofBits, Ideal.ieee, -EReal.coe_mul, -EReal.coe_neg]; try norm_num

/-- The word of 7. -/
theorem c_seven : Ideal.ofBits .f32 0x40E00000#32 = ((7 : ℝ) : EReal) := by
  simp [Ideal.ofBits, Ideal.ieee, -EReal.coe_mul, -EReal.coe_neg]; try norm_num

/-- The word of 8. -/
theorem c_eight : Ideal.ofBits .f32 0x41000000#32 = ((8 : ℝ) : EReal) := by
  simp [Ideal.ofBits, Ideal.ieee, -EReal.coe_mul, -EReal.coe_neg]; try norm_num

/-- The word of 9. -/
theorem c_nine : Ideal.ofBits .f32 0x41100000#32 = ((9 : ℝ) : EReal) := by
  simp [Ideal.ofBits, Ideal.ieee, -EReal.coe_mul, -EReal.coe_neg]; try norm_num

/-- The word of -2. -/
theorem c_neg_two : Ideal.ofBits .f32 0xC0000000#32 = ((-2 : ℝ) : EReal) := by
  simp [Ideal.ofBits, Ideal.ieee, -EReal.coe_mul, -EReal.coe_neg]; try norm_num

/-- The word of -1. -/
theorem c_neg_one : Ideal.ofBits .f32 0xBF800000#32 = ((-1 : ℝ) : EReal) := by
  simp [Ideal.ofBits, Ideal.ieee, -EReal.coe_mul, -EReal.coe_neg]; try norm_num

/-- The word of 1000000000. -/
theorem c_big : Ideal.ofBits .f32 0x4E6E6B28#32 = ((1000000000 : ℝ) : EReal) := by
  simp [Ideal.ofBits, Ideal.ieee, -EReal.coe_mul, -EReal.coe_neg]; try norm_num

/-- The word of positive infinity. -/
theorem c_top : Ideal.ofBits .f32 0x7F800000#32 = ⊤ := by simp [Ideal.ofBits, Ideal.ieee]

/-- The word of negative infinity. -/
theorem c_bot : Ideal.ofBits .f32 0xFF800000#32 = ⊥ := by simp [Ideal.ofBits, Ideal.ieee]

/-- An integer brought into the range of the tables. -/
def clip (n : ℤ) : ℤ := min 9 (max 0 n)

/-- A clipped label is not negative. -/
theorem clip_nonneg (n : ℤ) : 0 ≤ clip n := by unfold clip; omega

/-- A clipped label is at most nine. -/
theorem clip_le (n : ℤ) : clip n ≤ 9 := by unfold clip; omega

/-- The integer's clip, as the number the minimum and maximum of the numbers give. -/
theorem clip_coe (n : ℤ) : min ((9 : ℝ) : EReal) (max 0 (((n : ℝ)) : EReal)) = ((clip n : ℝ) : EReal) := by
  unfold clip
  rw [← EReal.coe_zero, ← EReal.coe_strictMono.monotone.map_max, ← EReal.coe_strictMono.monotone.map_min]
  push_cast
  rfl

/-- The class of a number: clipping after the floor is clipping after dropping the fraction. -/
theorem class_eq (x : EReal) :
    min ((9 : ℝ) : EReal) (max 0 (Ideal.liftRound Int.floor x)) =
      ((clip (Ideal.fptosi 32 x).toInt : ℝ) : EReal) := by
  have hcl : ∀ n : ℤ, -(2 ^ 31 : ℤ) ≤ n → n ≤ 2 ^ 31 - 1 → (BitVec.ofInt 32 n).toInt = n := by
    intro n h1 h2
    rw [BitVec.toInt_ofInt, Int.bmod_def]
    norm_num at *
    split <;> omega
  have hcf : ∀ n : ℤ, -(2 ^ 31 : ℤ) ≤ n → n ≤ 2 ^ 31 - 1 → Ideal.toIntClamped (-(2 ^ 31 : Nat)) ((2 ^ 31 : Nat) - 1) x = n →
      (Ideal.fptosi 32 x).toInt = n := by
    intro n h1 h2 h
    unfold Ideal.fptosi
    rw [show (32 - 1 : ℕ) = 31 from rfl, h]
    exact hcl n h1 h2
  induction x using EReal.rec with
  | bot =>
    rw [hcf (-(2 ^ 31)) (by norm_num) (by norm_num) rfl, show Ideal.liftRound Int.floor ⊥ = ⊥ from rfl, max_bot_right,
      show clip (-2 ^ 31) = 0 by decide]
    simp
  | top =>
    rw [hcf (2 ^ 31 - 1) (by norm_num) (by norm_num) rfl, show Ideal.liftRound Int.floor ⊤ = ⊤ from rfl, max_top_right,
      show clip (2 ^ 31 - 1) = 9 by decide]
    simp
  | coe r =>
    rw [show Ideal.liftRound Int.floor (r : EReal) = ((⌊r⌋ : ℝ) : EReal) from rfl, clip_coe,
      hcf (max (-2 ^ 31) (min (2 ^ 31 - 1) (if 0 ≤ r then ⌊r⌋ else ⌈r⌉))) (by omega) (by omega) rfl]
    have : clip ⌊r⌋ = clip (max (-2 ^ 31) (min (2 ^ 31 - 1) (if 0 ≤ r then ⌊r⌋ else ⌈r⌉))) := by
      unfold clip
      split_ifs with h
      · omega
      · have : ⌊r⌋ < 0 := Int.floor_lt.mpr (by push_cast; linarith)
        have : ⌈r⌉ ≤ 0 := Int.ceil_le.mpr (by push_cast; linarith)
        omega
    rw [this]

/-- A bit as a number. -/
theorem bit_num (b : BitVec 1) : (FloatOps.sitofp (F := Ideal) .f32 (BitVec.setWidth 32 b)) = if b = 1#1 then (1 : EReal) else 0 := by
  have : ∀ b : BitVec 1, b = 0#1 ∨ b = 1#1 := by decide
  rcases this b with rfl | rfl
  · show ((((0 : ℤ) : ℝ)) : EReal) = _
    simp
  · show ((((1 : ℤ) : ℝ)) : EReal) = _
    simp

/-- A bit read back from its number. -/
theorem bit_back (b : BitVec 1) :
    BitVec.ofBool (decide ((FloatOps.sitofp (F := Ideal) .f32 (BitVec.setWidth 32 b)) ≠ (0 : EReal))) = b := by
  rw [bit_num]
  have : ∀ b : BitVec 1, b = 0#1 ∨ b = 1#1 := by decide
  rcases this b with rfl | rfl <;> simp

/-- A label brought into the tables' range, as the reference clips it: the word of the clipped integer. -/
theorem clip_word (v : BitVec 32) : IntOp.minsi 9#32 (IntOp.maxsi 0#32 v) = BitVec.ofInt 32 (clip v.toInt) := by
  unfold IntOp.minsi IntOp.maxsi clip
  simp only [BitVec.slt_iff_toInt_lt, apply_ite BitVec.toInt]
  have h0 : (0#32).toInt = 0 := by decide
  have h9 : (9#32).toInt = 9 := by decide
  rw [h0, h9]
  split_ifs with h1 h2 h2
  · rw [max_eq_left h1.le]; omega
  · rw [max_eq_left h1.le]; rfl
  · rw [max_eq_right (by omega), min_eq_left (by omega)]; rfl
  · rw [max_eq_right (by omega), min_eq_right (by omega), BitVec.ofInt_toInt]

/-- The number the kernel counts a group by: how many of the steps the class has passed. -/
def group (e : EReal) : EReal :=
  (if ((1 : ℝ) : EReal) ≤ e then 1 else 0) + (if ((3 : ℝ) : EReal) ≤ e then 1 else 0) + (if ((5 : ℝ) : EReal) ≤ e then 1 else 0)
    + (if ((6 : ℝ) : EReal) ≤ e then 1 else 0) + (if ((8 : ℝ) : EReal) ≤ e then 1 else 0)

/-- A class's group. -/
def groupOf (n : ℤ) : ℤ := if n < 1 then 0 else if n < 3 then 1 else if n < 5 then 2 else if n < 6 then 3 else if n < 8 then 4 else 5

/-- A group is not negative. -/
theorem groupOf_nonneg (n : ℤ) : 0 ≤ groupOf n := by unfold groupOf; split_ifs <;> norm_num

/-- The sum of comparisons of an integer is its group. -/
theorem group_coe (n : ℤ) : group ((n : ℝ) : EReal) = ((groupOf n : ℝ) : EReal) := by
  unfold group groupOf
  simp only [EReal.coe_le_coe_iff]
  simp only [show ((1 : ℝ) ≤ n) = (1 ≤ n) by norm_cast, show ((3 : ℝ) ≤ n) = (3 ≤ n) by norm_cast,
    show ((5 : ℝ) ≤ n) = (5 ≤ n) by norm_cast, show ((6 : ℝ) ≤ n) = (6 ≤ n) by norm_cast,
    show ((8 : ℝ) ≤ n) = (8 ≤ n) by norm_cast]
  rw [← EReal.coe_one, ← EReal.coe_zero]
  split_ifs <;> first | omega | (simp only [← EReal.coe_add]; norm_num)

/-- Two that take part are matched exactly when their groups are one: the kernel's test, on numbers that tell who takes
    part, against the reference's. -/
theorem match_eq (a b : BitVec 1) (n k : ℤ) :
    (Scalar.select a (group ((n : ℝ) : EReal)) ((-2 : ℝ) : EReal) = Scalar.select b (group ((k : ℝ) : EReal)) ((-1 : ℝ) : EReal))
      ↔ (a = 1#1 ∧ b = 1#1 ∧ groupOf n = groupOf k) := by
  have hb : ∀ b : BitVec 1, b = 0#1 ∨ b = 1#1 := by decide
  rw [group_coe, group_coe]
  have h1 := groupOf_nonneg n
  have h2 := groupOf_nonneg k
  have s1 : ∀ x y : EReal, Scalar.select 1#1 x y = x := fun _ _ => rfl
  have s0 : ∀ x y : EReal, Scalar.select 0#1 x y = y := fun _ _ => rfl
  have z : ¬(0#1 = 1#1) := by decide
  rcases hb a with rfl | rfl <;> rcases hb b with rfl | rfl <;> simp only [s0, s1, EReal.coe_eq_coe_iff, z, false_and, and_false, true_and, iff_false]
  · norm_num
  · intro h
    have : (-2 : ℤ) = groupOf k := by exact_mod_cast h
    omega
  · intro h
    have : groupOf n = (-1 : ℤ) := by exact_mod_cast h
    omega
  · norm_cast

/-- The near threshold of a class. -/
def thrH (n : ℤ) : ℝ := if n = 9 then 1/2 else if n = 8 then 1/2 else if n = 7 then 1 else if n = 6 then 1 else if n = 5 then 1/2
  else if n = 4 then 5/2 else if n = 3 then 7/2 else if n = 2 then 5/2 else if n = 1 then 5/2 else 2

/-- A high threshold is at most 1000000000. -/
theorem thrH_le (n : ℤ) : thrH n ≤ 1000000000 := by unfold thrH; split_ifs <;> norm_num

/-- The medium threshold of a class. -/
def thrM (n : ℤ) : ℝ := if 8 ≤ n then 2 else if 5 ≤ n then 5/2 else 4

/-- A medium threshold is at most 1000000000. -/
theorem thrM_le (n : ℤ) : thrM n ≤ 1000000000 := by unfold thrM; split_ifs <;> norm_num

/-- An integer compared to a number that is an integer. -/
theorem coe_int_eq (n : ℤ) (r : ℝ) (k : ℤ) (h : r = k) : ((((n : ℝ)) : EReal) = (r : EReal)) = (n = k) := by
  rw [EReal.coe_eq_coe_iff, h]; norm_cast

/-- The kernel's ladder of comparisons is the near threshold. -/
theorem thrH_ladder (n : ℤ) :
    (if ((n : ℝ) : EReal) = ((9 : ℝ) : EReal) then ((1/2 : ℝ) : EReal) else if ((n : ℝ) : EReal) = ((8 : ℝ) : EReal) then ((1/2 : ℝ) : EReal)
      else if ((n : ℝ) : EReal) = ((7 : ℝ) : EReal) then 1 else if ((n : ℝ) : EReal) = ((6 : ℝ) : EReal) then 1
      else if ((n : ℝ) : EReal) = ((5 : ℝ) : EReal) then ((1/2 : ℝ) : EReal) else if ((n : ℝ) : EReal) = ((4 : ℝ) : EReal) then ((5/2 : ℝ) : EReal)
      else if ((n : ℝ) : EReal) = ((3 : ℝ) : EReal) then ((7/2 : ℝ) : EReal) else if ((n : ℝ) : EReal) = ((2 : ℝ) : EReal) then ((5/2 : ℝ) : EReal)
      else if ((n : ℝ) : EReal) = 1 then ((5/2 : ℝ) : EReal) else ((2 : ℝ) : EReal)) = (thrH n : EReal) := by
  rw [← EReal.coe_one]
  simp only [coe_int_eq n 9 9 (by norm_num), coe_int_eq n 8 8 (by norm_num), coe_int_eq n 7 7 (by norm_num), coe_int_eq n 6 6 (by norm_num),
    coe_int_eq n 5 5 (by norm_num), coe_int_eq n 4 4 (by norm_num), coe_int_eq n 3 3 (by norm_num), coe_int_eq n 2 2 (by norm_num),
    coe_int_eq n 1 1 (by norm_num)]
  unfold thrH
  split_ifs <;> rfl

/-- The kernel's steps down from four are the medium threshold. -/
theorem thrM_steps (n : ℤ) :
    ((4 : ℝ) : EReal) - ((3/2 : ℝ) : EReal) * (if ((5 : ℝ) : EReal) ≤ ((n : ℝ) : EReal) then 1 else 0)
      - ((1/2 : ℝ) : EReal) * (if ((8 : ℝ) : EReal) ≤ ((n : ℝ) : EReal) then 1 else 0) = (thrM n : EReal) := by
  unfold thrM
  simp only [EReal.coe_le_coe_iff]
  simp only [show ((5 : ℝ) ≤ n) = (5 ≤ n) by norm_cast, show ((8 : ℝ) ≤ n) = (8 ≤ n) by norm_cast]
  rw [← EReal.coe_one, ← EReal.coe_zero]
  split_ifs <;> first | omega | (simp only [← EReal.coe_sub, ← EReal.coe_mul]; norm_num)

/-- Whether a sum is not zero, as a bit. -/
abbrev part (s : EReal) : BitVec 1 := BitVec.ofBool (decide (s ≠ 0))

/-- The distance of two points of the plane. -/
def dst (x y u v : EReal) : EReal := Ideal.sqrt ((x - u) * (x - u) + (y - v) * (y - v))

/-- A decided bit is one when the proposition holds. -/
theorem ofBool_one (p : Prop) [Decidable p] : (BitVec.ofBool (decide p) = 1#1) = p := by
  by_cases h : p <;> simp [h]

end Cert.Scal

end
-- ==== Proof.Scan.lean ====
/- A running minimum over blocks: what it and its place are after some blocks, and that a whole scan gives the least value
   and the first place of it. Also a fold that keeps the least value with the least index. -/
module

public import proofs.«01_k».proof.Proof.Scal

@[expose] public section

noncomputable section

namespace Cert.Scan

open Idealize.ShloMosaic

/-- The large number the scan starts at. -/
abbrev big : EReal := ((1000000000 : ℝ) : EReal)

/-- `big` is finite. -/
theorem big_lt_top : big < ⊤ := EReal.coe_lt_top _

/-- A fold of minima from the top is a lower bound. -/
theorem fold_le {n : ℕ} (h : Fin n → EReal) (k : Fin n) : Finset.fold min ⊤ h Finset.univ ≤ h k :=
  (Finset.fold_min_le (h k)).mpr (.inr ⟨k, Finset.mem_univ k, le_rfl⟩)

/-- What lies strictly below a fold of minima. -/
theorem lt_fold {n : ℕ} (h : Fin n → EReal) (c : EReal) : c < Finset.fold min ⊤ h Finset.univ ↔ c < ⊤ ∧ ∀ k, c < h k := by
  rw [Finset.lt_fold_min]; simp

/-- What lies strictly above a fold of minima. -/
theorem fold_lt {n : ℕ} (h : Fin n → EReal) (c : EReal) (hc : c ≤ ⊤) : Finset.fold min ⊤ h Finset.univ < c ↔ ∃ k, h k < c := by
  rw [Finset.fold_min_lt]
  constructor
  · rintro (h | ⟨k, _, h⟩)
    · exact absurd h (not_lt.mpr le_top)
    · exact ⟨k, h⟩
  · rintro ⟨k, h⟩
    exact .inr ⟨k, Finset.mem_univ k, h⟩

/-- A fold of minima that is below the top is reached. -/
theorem fold_mem {n : ℕ} (h : Fin n → EReal) (hc : Finset.fold min ⊤ h Finset.univ < ⊤) : ∃ k, h k = Finset.fold min ⊤ h Finset.univ := by
  by_contra hne
  push Not at hne
  have : Finset.fold min ⊤ h Finset.univ < Finset.fold min ⊤ h Finset.univ :=
    (lt_fold h _).mpr ⟨hc, fun k => lt_of_le_of_ne (fold_le h k) (hne k).symm⟩
  exact lt_irrefl _ this

/-- What the running minimum `d` and its place `i` are after the first `n` values of `f`. -/
structure Best (f : ℕ → EReal) (n : ℕ) (d i : EReal) : Prop where
  le_big : d ≤ big
  le : ∀ k, k < n → d ≤ f k
  place : (d = big ∧ i = 0) ∨ ∃ k, k < n ∧ f k = d ∧ d < big ∧ i = (((k : ℕ) : ℝ) : EReal) ∧ ∀ k', k' < k → d < f k'

/-- Before any value, `big` and place zero. -/
theorem Best.zero (f : ℕ → EReal) : Best f 0 big 0 := ⟨le_rfl, fun _ h => absurd h (Nat.not_lt_zero _), .inl ⟨rfl, rfl⟩⟩

/-- One block of `B` values more. -/
theorem Best.step {f : ℕ → EReal} {n B : ℕ} (hB : B ≤ 1000000000) {d i : EReal} (b : Best f n d i) (h : Fin B → EReal)
    (hh : ∀ k : Fin B, h k = f (n + k)) (tm li base : EReal) (htm : tm = Finset.fold min ⊤ h Finset.univ)
    (hli : li = Finset.fold min ⊤ (fun k : Fin B => if h k = tm then (((k : ℕ) : ℝ) : EReal) else big) Finset.univ)
    (hbase : base = (((n : ℕ) : ℝ) : EReal)) :
    Best f (n + B) (if tm < d then tm else d) (if tm < d then li + base else i) := by
  have hle : ∀ k : Fin B, tm ≤ f (n + k) := fun k => by rw [← hh k, htm]; exact fold_le h k
  have split : ∀ k, k < n + B → k < n ∨ ∃ j : Fin B, k = n + j := fun k hk => by
    rcases lt_or_ge k n with h | h
    · exact .inl h
    · exact .inr ⟨⟨k - n, by omega⟩, by simp; omega⟩
  split_ifs with hlt
  · have htop : tm < ⊤ := lt_of_lt_of_le hlt le_top
    let g : Fin B → EReal := fun k => if h k = tm then (((k : ℕ) : ℝ) : EReal) else big
    obtain ⟨k₀, hk₀⟩ : ∃ k, h k = tm := by rw [htm]; exact fold_mem h (htm ▸ htop)
    have hval : ∀ k : Fin B, (((k : ℕ) : ℝ) : EReal) < big := fun k => by
      have : ((k : ℕ) : ℝ) < 1000000000 := by exact_mod_cast lt_of_lt_of_le k.isLt hB
      exact EReal.coe_lt_coe_iff.mpr this
    have hlib : li < big := by
      rw [hli, fold_lt _ _ le_top]
      exact ⟨k₀, by rw [if_pos hk₀]; exact hval k₀⟩
    obtain ⟨k₁, hk₁⟩ : ∃ k, g k = li := by rw [hli]; exact fold_mem _ (lt_trans (hli ▸ hlib) big_lt_top)
    have hk₁t : h k₁ = tm := by
      by_contra hne
      have : g k₁ = big := if_neg hne
      rw [this] at hk₁
      exact absurd hlib (hk₁ ▸ lt_irrefl _)
    have hli' : li = (((k₁ : ℕ) : ℝ) : EReal) := by rw [← hk₁]; exact if_pos hk₁t
    refine ⟨hlt.le.trans b.le_big, fun k hk => ?_, .inr ⟨n + k₁, by omega, by rw [← hh, hk₁t], lt_of_lt_of_le hlt b.le_big, ?_, fun k' hk' => ?_⟩⟩
    · rcases split k hk with h | ⟨j, rfl⟩
      · exact hlt.le.trans (b.le k h)
      · exact hle j
    · rw [hli', hbase, ← EReal.coe_add]; push_cast; rw [add_comm]
    · rcases split k' (by omega) with h | ⟨j, rfl⟩
      · exact lt_of_lt_of_le hlt (b.le k' h)
      · refine lt_of_le_of_ne (hle j) fun e => ?_
        have h1 : li ≤ g j := by rw [hli]; exact fold_le _ j
        have h2 : g j = (((j : ℕ) : ℝ) : EReal) := if_pos (by rw [hh, ← e])
        rw [hli', h2, EReal.coe_le_coe_iff] at h1
        have : (k₁ : ℕ) ≤ j := by exact_mod_cast h1
        omega
  · rw [not_lt] at hlt
    refine ⟨b.le_big, fun k hk => ?_, ?_⟩
    · rcases split k hk with h | ⟨j, rfl⟩
      · exact b.le k h
      · exact hlt.trans (hle j)
    · rcases b.place with h | ⟨k, hk, h⟩
      · exact .inl h
      · exact .inr ⟨k, by omega, h⟩

/-- After the whole scan, a test of the running minimum against a threshold is a test of the least value. -/
theorem Best.lt_iff {f : ℕ → EReal} {n : ℕ} {d i : EReal} (b : Best f n d i) (t : EReal) (ht : t ≤ big) :
    d < t ↔ Finset.fold min ⊤ (fun k : Fin n => f k) Finset.univ < t := by
  rw [fold_lt _ _ le_top]
  constructor
  · intro h
    rcases b.place with ⟨e, _⟩ | ⟨k, hk, e, _⟩
    · exact absurd (lt_of_lt_of_le h ht) (e ▸ lt_irrefl _)
    · exact ⟨⟨k, hk⟩, by rw [e]; exact h⟩
  · rintro ⟨k, h⟩
    exact lt_of_le_of_lt (b.le k k.isLt) h

/-- The fold that keeps the lesser value and, of two equal ones, the lesser index. -/
def keep (a b : EReal × BitVec 32) : EReal × BitVec 32 :=
  (if a.1 < b.1 then a.1 else b.1, if a.1 < b.1 ∨ (a.1 = b.1 ∧ a.2.toInt < b.2.toInt) then a.2 else b.2)

/-- What `keep` answers, and why. -/
theorem keep_cases (a b : EReal × BitVec 32) :
    (keep a b = a ∧ (a.1 < b.1 ∨ (a.1 = b.1 ∧ a.2.toInt ≤ b.2.toInt))) ∨ (keep a b = b ∧ (b.1 < a.1 ∨ (b.1 = a.1 ∧ b.2.toInt ≤ a.2.toInt))) := by
  unfold keep
  rcases lt_trichotomy a.1 b.1 with h | h | h
  · left; simp [h]
  · by_cases h2 : a.2.toInt < b.2.toInt
    · left; simp [h, h2, h2.le]; exact Prod.ext h.symm rfl
    · right; simp [h, h2]; omega
  · right
    simp [h, h.not_gt, h.ne']

/-- What the fold gives: one of the pairs, of least value, and of least index among those. -/
theorem keep_foldl (L : List (EReal × BitVec 32)) (p : EReal × BitVec 32) :
    L.foldl keep p ∈ p :: L ∧ ∀ q ∈ p :: L, (L.foldl keep p).1 < q.1 ∨ ((L.foldl keep p).1 = q.1 ∧ (L.foldl keep p).2.toInt ≤ q.2.toInt) := by
  induction L generalizing p with
  | nil => simp
  | cons a L ih =>
    rw [List.foldl_cons]
    obtain ⟨h1, h2⟩ := ih (keep p a)
    set r := L.foldl keep (keep p a) with hr
    have h3 := h2 (keep p a) (List.mem_cons_self ..)
    constructor
    · rcases List.mem_cons.mp h1 with h | h
      · rcases keep_cases p a with ⟨e, _⟩ | ⟨e, _⟩ <;> rw [h, e] <;> simp
      · simp [h]
    · intro q hq
      have hq' : q = p ∨ q = a ∨ q ∈ L := by simpa using hq
      rcases keep_cases p a with ⟨e, h4⟩ | ⟨e, h4⟩ <;> rw [e] at h3 <;> rcases hq' with rfl | rfl | hq'
      · exact h3
      · rcases h3 with h3 | ⟨h3, h3'⟩ <;> rcases h4 with h4 | ⟨h4, h4'⟩
        · exact .inl (h3.trans h4)
        · exact .inl (h4 ▸ h3)
        · exact .inl (h3 ▸ h4)
        · exact .inr ⟨h3.trans h4, h3'.trans h4'⟩
      · exact h2 q (List.mem_cons_of_mem _ hq')
      · rcases h3 with h3 | ⟨h3, h3'⟩ <;> rcases h4 with h4 | ⟨h4, h4'⟩
        · exact .inl (h3.trans h4)
        · exact .inl (h4 ▸ h3)
        · exact .inl (h3 ▸ h4)
        · exact .inr ⟨h3.trans h4, h3'.trans h4'⟩
      · exact h3
      · exact h2 q (List.mem_cons_of_mem _ hq')

/-- The word of a small number. -/
theorem word_of (k : ℕ) (hk : k < 2 ^ 31) : Ideal.fptosi 32 ((((k : ℕ) : ℝ)) : EReal) = BitVec.ofNat 32 k := by
  unfold Ideal.fptosi
  have : Ideal.toIntClamped (-(2 ^ (32 - 1) : Nat)) ((2 ^ (32 - 1) : Nat) - 1) ((((k : ℕ) : ℝ)) : EReal) = (k : ℤ) := by
    show max _ (min _ (if (0 : ℝ) ≤ (k : ℝ) then ⌊(k : ℝ)⌋ else ⌈(k : ℝ)⌉)) = (k : ℤ)
    rw [if_pos (Nat.cast_nonneg k), Int.floor_natCast]
    norm_num
    omega
  rw [this]
  exact BitVec.ofInt_natCast 32 k

/-- After the whole scan the place is the index the fold keeps, when the first value is within reach. -/
theorem Best.arg {f : ℕ → EReal} {n : ℕ} (hn : n < 2 ^ 31) {d i : EReal} (b : Best f n d i) (h0 : 0 < n) (hf : f 0 ≤ big)
    (L : List (EReal × BitVec 32)) (hL : ∀ p, p ∈ L ↔ ∃ k, k < n ∧ p = (f k, BitVec.ofNat 32 k)) :
    Ideal.fptosi 32 i = (L.foldl keep (⊤, 0#32)).2 := by
  obtain ⟨h1, h2⟩ := keep_foldl L (⊤, 0#32)
  set r := L.foldl keep (⊤, 0#32) with hr
  have hint : ∀ k, k < n → (BitVec.ofNat 32 k).toInt = k := fun k hk => by
    rw [BitVec.toInt_eq_toNat_cond, BitVec.toNat_ofNat, Nat.mod_eq_of_lt (by omega)]; split <;> omega
  have hlow : ∀ k, k < n → r.1 ≤ f k := fun k hk => by
    rcases h2 (f k, BitVec.ofNat 32 k) (List.mem_cons_of_mem _ ((hL _).mpr ⟨k, hk, rfl⟩)) with h | h
    · exact h.le
    · exact h.1.le
  have hr1 : r.1 < ⊤ := lt_of_le_of_lt (hlow 0 h0) (lt_of_le_of_lt hf big_lt_top)
  obtain ⟨k, hk, hrk⟩ : ∃ k, k < n ∧ r = (f k, BitVec.ofNat 32 k) := by
    rcases List.mem_cons.mp h1 with h | h
    · rw [h] at hr1; exact absurd hr1 (lt_irrefl _)
    · exact (hL _).mp h
  have hfirst : ∀ k', k' < n → f k' = f k → k ≤ k' := fun k' hk' e => by
    rcases h2 (f k', BitVec.ofNat 32 k') (List.mem_cons_of_mem _ ((hL _).mpr ⟨k', hk', rfl⟩)) with h | h
    · rw [hrk] at h; exact absurd h (e ▸ lt_irrefl _)
    · have := h.2
      rw [hrk, hint k hk, hint k' hk'] at this
      omega
  rw [hrk] at hlow ⊢
  rcases b.place with ⟨e, ei⟩ | ⟨j, hj, e, hjb, ei, hjf⟩
  · have h3 : f 0 = f k := le_antisymm (hf.trans (e ▸ b.le k hk)) (hlow 0 h0)
    have h4 := hfirst 0 h0 h3
    have : k = 0 := by omega
    subst this
    rw [ei]
    have := word_of 0 (by norm_num)
    simpa using this
  · have h3 : f j = f k := le_antisymm (e ▸ b.le k hk) (hlow j hj)
    have h4 := hfirst j hj h3
    have h5 : ¬ k < j := fun h => absurd (hjf k h) (by rw [← h3, e]; exact lt_irrefl _)
    have : j = k := by omega
    subst this
    rw [ei]
    exact word_of j (by omega)

end Cert.Scan

end
-- ==== Proof.KVals.lean ====
/- The kernel's block values read at an index. -/
module

public import proofs.«01_k».proof.Proof.KBlock
public import proofs.«01_k».proof.Proof.Scan

@[expose] public section

noncomputable section

namespace Cert.KVal

open Cert.KernelIdeal Cert.KernelIdeal.Gen Idealize.ShloMosaic Cert.Scal Cert.Scan

variable (X0 : FVec Ideal S1x1000x9 .f32) (X1 : FVec Ideal S1x1000x1 .f32) (X2 : FVec Ideal S1x10x500 .f32)

/-- Whether a region of the block takes part. -/
theorem valid0 (k : Fin 1000) : k0_pay21 (F := Ideal) X0 (ix2 k 0) = part (∑ a, X0 (ix3 0 k a)) := by
  pointwise [k0_pay21, k0_pay18]

/-- Whether a box of the block takes part. -/
theorem valid2 (g : Fin 500) : k0_pay26 (F := Ideal) X2 (ix2 0 g) = part (∑ a, X2 (ix3 0 a g)) := by
  pointwise [k0_pay26, k0_pay23]

/-- The distance of a region of the block from a box. -/
theorem sqB_apply (k : Fin 1000) (g : Fin 500) :
    Ideal.sqrt (sqB X0 X2 (ix2 k g)) = dst (X0 (ix3 0 k 0)) (X0 (ix3 0 k 1)) (X2 (ix3 0 0 g)) (X2 (ix3 0 1 g)) := by
  unfold dst
  pointwise [sqB, k0_pay29, k0_pay19, k0_pay20, k0_pay24, k0_pay25, k0_pay23, k0_pay18]

/-- The stored distance of a region from a box. -/
theorem distB_apply (k : Fin 1000) (g : Fin 500) :
    distB X0 X2 (ix3 0 k g) = Scalar.select (IntOp.andi (k0_pay21 (F := Ideal) X0 (ix2 k 0)) (k0_pay26 (F := Ideal) X2 (ix2 0 g)))
      (Ideal.sqrt (sqB X0 X2 (ix2 k g))) 0 := by
  unfold distB
  generalize sqB X0 X2 = s
  pointwise [k0_pay32, k0_pay31, k0_pay30]

/-- The class of a label of the block. -/
theorem group0 (k : Fin 1000) (n : ℤ) (h : X1 (ix3 0 k 0) = ((n : ℝ) : EReal)) :
    k0_pay22 (F := Ideal) X0 X1 (ix2 k 0) =
      Scalar.select (k0_pay21 (F := Ideal) X0 (ix2 k 0)) (group ((clip n : ℝ) : EReal)) ((-2 : ℝ) : EReal) := by
  have h1 : k0_pay22 (F := Ideal) X0 X1 (ix2 k 0) =
      Scalar.select (k0_pay21 (F := Ideal) X0 (ix2 k 0)) (group (min ((9 : ℝ) : EReal) (max 0 (X1 (ix3 0 k 0))))) ((-2 : ℝ) : EReal) := by
    unfold group
    pointwise [k0_pay22]
    simp only [bit_num, c_nine, c_three, c_five, c_six, c_eight, c_neg_two]
    simp only [ofBool_one, EReal.coe_one]
    congr!
  rw [h1, h, clip_coe]

/-- The class of a box of the block. -/
abbrev cls (g : Fin 500) : ℤ := clip (Ideal.fptosi 32 (X2 (ix3 0 9 g))).toInt

/-- The class of a box, as the kernel computes it. -/
theorem class2 (g : Fin 500) : k0_pay27 (F := Ideal) X2 (ix2 0 g) = ((cls X2 g : ℝ) : EReal) := by
  rw [← class_eq]
  pointwise [k0_pay27, k0_pay23]
  rw [c_nine]

/-- The group of a box, as the kernel computes it: below every group where the box takes no part. -/
theorem group2 (g : Fin 500) :
    k0_pay28 (F := Ideal) X2 (ix2 0 g) =
      Scalar.select (k0_pay26 (F := Ideal) X2 (ix2 0 g)) (group ((cls X2 g : ℝ) : EReal)) ((-1 : ℝ) : EReal) := by
  rw [← class2]
  unfold group
  pointwise [k0_pay28]
  simp only [bit_num, c_three, c_five, c_six, c_eight, c_neg_one]
  simp only [ofBool_one, EReal.coe_one]
  congr!

/-- The far mark of a region of the block: no box that takes part is within four. -/
theorem fpB_apply (k : Fin 1000) :
    fpB X0 X2 (ix3 0 k 0) = FloatOps.sitofp (F := Ideal) .f32 (BitVec.setWidth 32 (IntOp.andi
      (BitVec.ofBool (decide (((4 : ℝ) : EReal) < Finset.fold min ⊤ (fun g : Fin 500 =>
        Scalar.select (IntOp.andi (k0_pay21 (F := Ideal) X0 (ix2 k 0)) (k0_pay26 (F := Ideal) X2 (ix2 0 g)))
          (Ideal.sqrt (sqB X0 X2 (ix2 k g))) big) Finset.univ)))
      (k0_pay21 (F := Ideal) X0 (ix2 k 0)))) := by
  have hb : ∀ b : BitVec 1, b = 0#1 ∨ b = 1#1 := by decide
  have key : ∀ (v : BitVec 1) (w : Fin 500 → BitVec 1) (d : Fin 500 → EReal),
      IntOp.xori (BitVec.ofBool (decide (0 < Finset.fold max (⊥ : EReal)
        (fun g => Scalar.select (IntOp.andi (IntOp.andi v (w g)) (BitVec.ofBool (decide (d g ≤ ((4 : ℝ) : EReal))))) 1 0) Finset.univ))) 1#1
      = BitVec.ofBool (decide (((4 : ℝ) : EReal) < Finset.fold min ⊤ (fun g => Scalar.select (IntOp.andi v (w g)) (d g) big) Finset.univ)) := by
    intro v w d
    have h1 : (0 < Finset.fold max (⊥ : EReal)
        (fun g => Scalar.select (IntOp.andi (IntOp.andi v (w g)) (BitVec.ofBool (decide (d g ≤ ((4 : ℝ) : EReal))))) 1 0) Finset.univ)
        ↔ ¬(((4 : ℝ) : EReal) < Finset.fold min ⊤ (fun g => Scalar.select (IntOp.andi v (w g)) (d g) big) Finset.univ) := by
      rw [lt_fold, Finset.lt_fold_max]
      have h2 : ∀ g, (0 : EReal) < Scalar.select (IntOp.andi (IntOp.andi v (w g)) (BitVec.ofBool (decide (d g ≤ ((4 : ℝ) : EReal))))) 1 0
          ↔ ¬ ((4 : ℝ) : EReal) < Scalar.select (IntOp.andi v (w g)) (d g) big := by
        intro g
        have h4 : ((4 : ℝ) : EReal) < big := EReal.coe_lt_coe_iff.mpr (by norm_num)
        rcases hb (IntOp.andi v (w g)) with e | e <;> rw [e] <;> by_cases h : d g ≤ ((4 : ℝ) : EReal)
        · simp [Scalar.select, IntOp.andi, h, h4]
        · simp [Scalar.select, IntOp.andi, h, h4]
        · simp [Scalar.select, IntOp.andi, h]
        · simp [Scalar.select, IntOp.andi, h, not_le.mp h]
      constructor
      · rintro (h | ⟨g, _, h⟩)
        · exact absurd h (not_lt.mpr bot_le)
        · rintro ⟨_, h3⟩
          exact (h2 g).mp h (h3 g)
      · intro h
        right
        by_contra hne
        push Not at hne
        refine h ⟨EReal.coe_lt_top _, fun g => ?_⟩
        by_contra h3
        exact absurd ((h2 g).mpr h3) (not_lt.mpr (hne g (Finset.mem_univ g)))
    simp only [h1]
    by_cases h : ((4 : ℝ) : EReal) < Finset.fold min ⊤ (fun g => Scalar.select (IntOp.andi v (w g)) (d g) big) Finset.univ <;> simp [h, IntOp.xori]
  rw [← key]
  unfold fpB
  generalize sqB X0 X2 = s
  pointwise [k0_pay2, k0_pay30, k0_pay31]
  rw [c_bot, c_four]
  congr!

/-- The distances a block matches: those of a region and a box of one group. -/
abbrev mdB (k : Fin 1000) (g : Fin 500) : EReal :=
  if k0_pay22 (F := Ideal) X0 X1 (ix2 k 0) = k0_pay28 (F := Ideal) X2 (ix2 0 g) then Ideal.sqrt (sqB X0 X2 (ix2 k g)) else big

/-- The matching distance of a region and a box, as the kernel computes it. -/
theorem pay33_apply (k : Fin 1000) (g : Fin 500) :
    k0_pay33 (k0_pay22 (F := Ideal) X0 X1) (k0_pay28 (F := Ideal) X2) (sqB X0 X2) (ix2 k g) = mdB X0 X1 X2 k g := by
  unfold mdB
  generalize sqB X0 X2 = s
  generalize k0_pay22 (F := Ideal) X0 X1 = u
  generalize k0_pay28 (F := Ideal) X2 = v
  pointwise [k0_pay33, k0_pay30]
  rw [c_big]

/-- The least matched distance of a block. -/
abbrev tmB (g : Fin 500) : EReal := Finset.fold min ⊤ (fun k : Fin 1000 => mdB X0 X1 X2 k g) Finset.univ

/-- The smallest matching distance of a tile, as the kernel computes it. -/
theorem pay34_apply (g : Fin 500) :
    k0_pay34 (k0_pay22 (F := Ideal) X0 X1) (k0_pay28 (F := Ideal) X2) (sqB X0 X2) (ix2 0 g) = tmB X0 X1 X2 g := by
  unfold tmB
  simp only [← pay33_apply]
  generalize sqB X0 X2 = s
  generalize k0_pay22 (F := Ideal) X0 X1 = u
  generalize k0_pay28 (F := Ideal) X2 = v
  pointwise [k0_pay34]
  rw [c_top]

/-- The running minimum after a tile. -/
theorem minB_apply (p0 : FVec Ideal S1x500 .f32) (g : Fin 500) :
    minB X0 X1 X2 p0 (ix2 0 g) = if tmB X0 X1 X2 g < p0 (ix2 0 g) then tmB X0 X1 X2 g else p0 (ix2 0 g) := by
  rw [← pay34_apply]
  unfold minB
  generalize sqB X0 X2 = s
  generalize k0_pay22 (F := Ideal) X0 X1 = u
  generalize k0_pay28 (F := Ideal) X2 = v
  pointwise [k0_pay1, k0_pay37]

/-- The running place after a tile. -/
theorem argB_apply (r : BitVec 32) (p0 p1 : FVec Ideal S1x500 .f32) (g : Fin 500) :
    argB r X0 X1 X2 p0 p1 (ix2 0 g) = if tmB X0 X1 X2 g < p0 (ix2 0 g) then
      Finset.fold min ⊤ (fun k : Fin 1000 => if mdB X0 X1 X2 k g = tmB X0 X1 X2 g then (((k : ℕ) : ℝ) : EReal) else big) Finset.univ
        + (((Scalar.muli r 1000#32).toInt : ℝ) : EReal) else p1 (ix2 0 g) := by
  have hk : ∀ k : Fin 1000, FloatOps.sitofp (F := Ideal) .f32 (BitVec.ofNat 32 k) = (((k : ℕ) : ℝ) : EReal) := fun k => by
    show ((((BitVec.ofNat 32 (k : ℕ)).toInt : ℝ)) : EReal) = _
    rw [BitVec.toInt_eq_toNat_cond, BitVec.toNat_ofNat, Nat.mod_eq_of_lt (by omega), if_pos (by omega)]
    norm_cast
  rw [← pay34_apply]
  simp only [← pay33_apply]
  unfold argB
  generalize sqB X0 X2 = s
  generalize k0_pay22 (F := Ideal) X0 X1 = u
  generalize k0_pay28 (F := Ideal) X2 = v
  pointwise [k0_pay38, k0_pay37]
  simp only [hk, c_top, c_big]

end Cert.KVal

end
-- ==== Proof.Marks.lean ====
/- The marks of one box from its least distance, its thresholds and its place: the bits both programs compute. -/
module

public import proofs.«01_k».proof.Proof.Scal

@[expose] public section

noncomputable section

namespace Cert.Marks

open Idealize.ShloMosaic

/-- A box that takes part and whose least distance is below the near threshold. -/
def hi (d t : EReal) (v : BitVec 1) : BitVec 1 := IntOp.andi (BitVec.ofBool (decide (d < t))) v

/-- A box that takes part, not near, and whose least distance is below the medium threshold. -/
def med (h : BitVec 1) (d t : EReal) (v : BitVec 1) : BitVec 1 := IntOp.andi (IntOp.andi (~~~h) (BitVec.ofBool (decide (d < t)))) v

/-- A box that takes part and is neither. -/
def miss (h k v : BitVec 1) : BitVec 1 := IntOp.andi (IntOp.andi v (~~~h)) (~~~k)

/-- A missed box close to the origin. -/
def near (s : BitVec 1) (r : EReal) : BitVec 1 := IntOp.andi s (BitVec.ofBool (decide (r < Ideal.ofBits .f32 0x41F00000#32)))

/-- A missed box far from the origin. -/
def far (s : BitVec 1) (r : EReal) : BitVec 1 := IntOp.andi s (BitVec.ofBool (decide (Ideal.ofBits .f32 0x42480000#32 < r)))

/-- A missed box between the two. -/
def mid (s n f : BitVec 1) : BitVec 1 := IntOp.andi (IntOp.andi s (~~~n)) (~~~f)

/-- The distance of a point from the origin. -/
def rng (x y : EReal) : EReal := Ideal.sqrt (x * x + y * y)

/-- A bit against one is the other bit. -/
theorem xor_one (b : BitVec 1) : IntOp.xori b 1#1 = ~~~b := by
  have : ∀ b : BitVec 1, IntOp.xori b 1#1 = ~~~b := by decide
  exact this b

/-- A bit as the number the kernel stores for it. -/
abbrev num (b : BitVec 1) : EReal := FloatOps.sitofp (F := Ideal) .f32 (BitVec.setWidth 32 b)

end Cert.Marks

end
-- ==== Proof.KMarks.lean ====
/- The kernel's last point of a batch: the marks it stores for one box. -/
module

public import proofs.«01_k».proof.Proof.KVals
public import proofs.«01_k».proof.Proof.Marks

@[expose] public section

noncomputable section

namespace Cert.KVal

open Cert.KernelIdeal Cert.KernelIdeal.Gen Idealize.ShloMosaic Cert.Scal Cert.Marks

variable (x y : FVec Ideal S1x500 .f32) (V : IVec S1x500 1) (K P T : FVec Ideal S1x500 .f32)

/-- The high mark of a box. -/
theorem pay9_apply (g : Fin 500) : k0_pay9 (F := Ideal) V P T (ix2 0 g) = hi (P (ix2 0 g)) (T (ix2 0 g)) (V (ix2 0 g)) := by
  unfold hi
  pointwise [k0_pay9]

/-- The medium mark of a box. -/
theorem pay10_apply (g : Fin 500) (n : ℤ) (hn : K (ix2 0 g) = ((n : ℝ) : EReal)) :
    k0_pay10 (F := Ideal) V K P T five (ix2 0 g) =
      med (hi (P (ix2 0 g)) (T (ix2 0 g)) (V (ix2 0 g))) (P (ix2 0 g)) ((thrM n : ℝ) : EReal) (V (ix2 0 g)) := by
  rw [← thrM_steps, ← hn, ← pay9_apply]
  unfold med
  generalize hz : k0_pay9 (F := Ideal) V P T = z
  have e : k0_pay10 (F := Ideal) V K P T five (ix2 0 g) = IntOp.andi (IntOp.andi (IntOp.xori (k0_pay9 (F := Ideal) V P T (ix2 0 g)) 1#1)
      (BitVec.ofBool (decide (P (ix2 0 g) < Ideal.ofBits .f32 0x40800000#32 - Ideal.ofBits .f32 0x3FC00000#32 * num (BitVec.ofBool (decide (Ideal.ofBits .f32 0x40A00000#32 ≤ K (ix2 0 g))))
        - Ideal.ofBits .f32 0x3F000000#32 * num (BitVec.ofBool (decide (Ideal.ofBits .f32 0x41000000#32 ≤ K (ix2 0 g)))))))) (V (ix2 0 g)) := by
    clear hz
    pointwise [k0_pay10]
  rw [e, hz, xor_one, c_four, c_three_half, c_half, c_five, c_eight]
  unfold num
  simp only [bit_num, ofBool_one]

/-- The class's near threshold, as the kernel finds it. -/
theorem pay8_apply (g : Fin 500) (n : ℤ) (hn : K (ix2 0 g) = ((n : ℝ) : EReal)) :
    k0_pay8 (F := Ideal) K (ix2 0 g) = ((thrH n : ℝ) : EReal) := by
  rw [← thrH_ladder, ← hn]
  pointwise [k0_pay8]
  simp only [c_nine, c_eight, c_seven, c_six, c_five, c_four, c_three, c_two, c_half, c_two_half, c_seven_half]

/-- The mark of a box that takes part and is neither high nor medium. -/
theorem pay11_apply (g : Fin 500) : k0_pay11 (F := Ideal) V K P T five (ix2 0 g) =
    miss (k0_pay9 (F := Ideal) V P T (ix2 0 g)) (k0_pay10 (F := Ideal) V K P T five (ix2 0 g)) (V (ix2 0 g)) := by
  unfold miss
  rw [← xor_one, ← xor_one]
  unfold k0_pay11
  generalize k0_pay9 (F := Ideal) V P T = a
  generalize k0_pay10 (F := Ideal) V K P T five = b
  pointwise

/-- A box's distance from the origin. -/
theorem pay12_apply (g : Fin 500) : k0_pay12 (F := Ideal) x y (ix2 0 g) = rng (x (ix2 0 g)) (y (ix2 0 g)) := by
  unfold rng
  pointwise [k0_pay12]

/-- The near mark of a box. -/
theorem pay13_apply (g : Fin 500) : k0_pay13 (F := Ideal) x y V K P T five (ix2 0 g) =
    near (k0_pay11 (F := Ideal) V K P T five (ix2 0 g)) (rng (x (ix2 0 g)) (y (ix2 0 g))) := by
  rw [← pay12_apply]
  unfold near k0_pay13
  generalize k0_pay12 (F := Ideal) x y = a
  generalize k0_pay11 (F := Ideal) V K P T five = b
  pointwise

/-- The far mark of a box. -/
theorem pay14_apply (g : Fin 500) : k0_pay14 (F := Ideal) x y V K P T five (ix2 0 g) =
    far (k0_pay11 (F := Ideal) V K P T five (ix2 0 g)) (rng (x (ix2 0 g)) (y (ix2 0 g))) := by
  rw [← pay12_apply]
  unfold far k0_pay14
  generalize k0_pay12 (F := Ideal) x y = a
  generalize k0_pay11 (F := Ideal) V K P T five = b
  pointwise

/-- The mid mark of a box. -/
theorem pay15_apply (g : Fin 500) : k0_pay15 (F := Ideal) x y V K P T five (ix2 0 g) =
    mid (k0_pay11 (F := Ideal) V K P T five (ix2 0 g)) (k0_pay13 (F := Ideal) x y V K P T five (ix2 0 g))
      (k0_pay14 (F := Ideal) x y V K P T five (ix2 0 g)) := by
  unfold mid
  rw [← xor_one, ← xor_one]
  unfold k0_pay15
  generalize k0_pay11 (F := Ideal) V K P T five = a
  generalize k0_pay13 (F := Ideal) x y V K P T five = b
  generalize k0_pay14 (F := Ideal) x y V K P T five = d
  pointwise

/-- The high mark as the number stored. -/
theorem pay16_apply (g : Fin 500) : k0_pay16 (F := Ideal) V P T (ix3 0 0 g) = num (k0_pay9 (F := Ideal) V P T (ix2 0 g)) := by
  unfold k0_pay16
  generalize k0_pay9 (F := Ideal) V P T = a
  pointwise

/-- The medium mark as the number stored. -/
theorem pay17_apply (g : Fin 500) : k0_pay3 (F := Ideal) (k0_pay17 (F := Ideal) V K P T five) (ix3 0 0 g) = num (k0_pay10 (F := Ideal) V K P T five (ix2 0 g)) := by
  unfold k0_pay17
  generalize k0_pay10 (F := Ideal) V K P T five = a
  pointwise [k0_pay3]

/-- The near mark as the number stored. -/
theorem pay4_apply (b : IVec S1x500 1) (g : Fin 500) : k0_pay4 (F := Ideal) b (ix3 0 0 g) = num (b (ix2 0 g)) := by
  pointwise [k0_pay4]

/-- The mid mark as the number stored. -/
theorem pay5_apply (b : IVec S1x500 1) (g : Fin 500) : k0_pay5 (F := Ideal) b (ix3 0 0 g) = num (b (ix2 0 g)) := by
  pointwise [k0_pay5]

/-- The far mark as the number stored. -/
theorem pay6_apply (b : IVec S1x500 1) (g : Fin 500) : k0_pay6 (F := Ideal) b (ix3 0 0 g) = num (b (ix2 0 g)) := by
  pointwise [k0_pay6]

/-- The place stored is the running place. -/
theorem pay7_apply (g : Fin 500) : k0_pay7 (F := Ideal) P (ix3 0 0 g) = P (ix2 0 g) := by
  pointwise [k0_pay7]

/-- A box's first coordinate. -/
theorem pay24_apply (X2 : FVec Ideal S1x10x500 .f32) (g : Fin 500) : k0_pay24 (F := Ideal) X2 (ix2 0 g) = X2 (ix3 0 0 g) := by
  pointwise [k0_pay24, k0_pay23]

/-- A box's second coordinate. -/
theorem pay25_apply (X2 : FVec Ideal S1x10x500 .f32) (g : Fin 500) : k0_pay25 (F := Ideal) X2 (ix2 0 g) = X2 (ix3 0 1 g) := by
  pointwise [k0_pay25, k0_pay23]

/-- The running minimum starts at `big`. -/
theorem pay35_apply (g : Fin 500) : k0_pay35 (F := Ideal) (ix2 0 g) = Scan.big := by
  pointwise [k0_pay35]
  rw [c_big]

/-- The running place starts at zero. -/
theorem pay36_apply (g : Fin 500) : k0_pay36 (F := Ideal) (ix2 0 g) = 0 := by
  pointwise [k0_pay36]

end Cert.KVal

end
-- ==== Proof.KBlk.lean ====
/- The kernel's blocks read at an index of the arguments. -/
module

public import proofs.«01_k».proof.Proof.KBlock
public import Idealize.ShloMosaic.Lib.Claim
public import Idealize.ShloMosaic.Lib.Pointwise
public import Idealize.ShloMosaic.Lib.StableHlo.ReadAt

@[expose] public section

noncomputable section

namespace Cert.KVal

open Cert.KernelIdeal Cert.KernelIdeal.Gen Idealize.ShloMosaic Idealize.ShloMosaic.TcCoe Idealize.SL.Sem Idealize.ShloMosaic.Pipeline

variable (m : (ℓ : Loc nD τ sig) → Buf (Elt Ideal) ℓ)

/-- Where the window of the regions lies at a grid point. -/
theorem idx0 : ∀ t : Fin cfg0.N, win0_0.index t (0 : Fin 3) = t.val / 5 ∧ win0_0.index t (1 : Fin 3) = t.val % 5 ∧ win0_0.index t (2 : Fin 3) = 0 :=
  (by decide +kernel : ∀ t : Fin grid0.N, _)

/-- Where the window of the labels lies at a grid point. -/
theorem idx1 : ∀ t : Fin cfg0.N, win0_1.index t (0 : Fin 3) = t.val / 5 ∧ win0_1.index t (1 : Fin 3) = t.val % 5 ∧ win0_1.index t (2 : Fin 3) = 0 :=
  (by decide +kernel : ∀ t : Fin grid0.N, _)

/-- Where the window of the boxes lies at a grid point. -/
theorem idx2 : ∀ t : Fin cfg0.N, win0_2.index t (0 : Fin 3) = t.val / 5 ∧ win0_2.index t (1 : Fin 3) = 0 ∧ win0_2.index t (2 : Fin 3) = 0 :=
  (by decide +kernel : ∀ t : Fin grid0.N, _)

/-- The tile of a grid point. -/
theorem tile : ∀ t : Fin cfg0.N, ((grid0.coords t) 1).val = t.val % 5 :=
  (by decide +kernel : ∀ t : Fin grid0.N, _)

/-- The grid has twenty points. -/
theorem pt_lt (t : Fin cfg0.N) : t.val < 20 := lt_of_lt_of_eq t.isLt N_0

/-- The batch of a point. -/
abbrev bOf (t : Fin cfg0.N) : Fin 4 := ⟨t.val / 5, by have := pt_lt t; omega⟩

/-- The region a block's row is. -/
abbrev kOf (t : Fin cfg0.N) (k : Fin 1000) : Fin 5000 := ⟨1000 * (t.val % 5) + k.val, by have := k.isLt; omega⟩

/-- The regions. -/
abbrev A0 (c : Dev nD) : FVec Ideal S4x5000x9 .f32 := m ((c.tc : Thread nD τ).loc main_arg0)

/-- The regions' labels. -/
abbrev A2 (c : Dev nD) : IVec S4x5000 32 := m ((c.tc : Thread nD τ).loc main_arg2)

/-- The boxes. -/
abbrev A3 (c : Dev nD) : FVec Ideal S4x500x10 .f32 := m ((c.tc : Thread nD τ).loc main_arg3)

/-- A staged region is one of the argument. -/
theorem iblk0_apply (c : Dev nD) (t : Fin cfg0.N) (k : Fin 1000) (a : Fin 9) :
    (iblk m c 0 t : FVec Ideal S1x1000x9 .f32) (ix3 0 k a) = A0 m c (ix3 (bOf t) (kOf t k) a) := by
  obtain ⟨e0, e1, e2⟩ := idx0 t
  blk_ext [iblk, V, e0, e1, e2]

/-- The labels as the region of the program finds them: the argument as numbers. -/
theorem labels (c : Dev nD) (b : Fin 4) (k : Fin 5000) :
    (V m c main_v1 : FVec Ideal S4x5000x1 .f32) (ix3 b k 0) = (((A2 m c (ix2 b k)).toInt : ℝ) : EReal) := by
  unfold V
  after_reads_at
  rfl

/-- The boxes as the region of the program finds them: the argument with its last two axes exchanged. -/
theorem boxes (c : Dev nD) (b : Fin 4) (a : Fin 10) (g : Fin 500) :
    (V m c main_v2 : FVec Ideal S4x10x500 .f32) (ix3 b a g) = A3 m c (ix3 b g a) := by
  unfold V
  after_reads_at

/-- A staged label is one of the argument, as a number. -/
theorem iblk1_apply (c : Dev nD) (t : Fin cfg0.N) (k : Fin 1000) :
    (iblk m c 1 t : FVec Ideal S1x1000x1 .f32) (ix3 0 k 0) = (((A2 m c (ix2 (bOf t) (kOf t k))).toInt : ℝ) : EReal) := by
  obtain ⟨e0, e1, e2⟩ := idx1 t
  rw [← labels]
  unfold iblk
  generalize hV : (V m c main_v1 : FVec Ideal S4x5000x1 .f32) = v
  blk_ext [hV, e0, e1, e2]

/-- A staged box is one of the argument. -/
theorem iblk2_apply (c : Dev nD) (t : Fin cfg0.N) (a : Fin 10) (g : Fin 500) :
    (iblk m c 2 t : FVec Ideal S1x10x500 .f32) (ix3 0 a g) = A3 m c (ix3 (bOf t) g a) := by
  obtain ⟨e0, e1, e2⟩ := idx2 t
  rw [← boxes]
  unfold iblk
  generalize hV : (V m c main_v2 : FVec Ideal S4x10x500 .f32) = v
  blk_ext [hV, e0, e1, e2]

end Cert.KVal

end
-- ==== Proof.RefRun.lean ====
/- What the reference program computes, as named stages over its arguments, and its run: it ends with each result at its
   stage and the arguments unchanged. -/
module

public import proofs.«01_k».proof.Defs
public import proofs.«01_k».proof.Proof.Gen.ReferenceIdeal
public import Idealize.ShloMosaic.Lib.Claim
public import Idealize.ShloMosaic.Lib.Quiescent

@[expose] public section

noncomputable section

namespace Cert.RefVal

open Cert.ReferenceIdeal Cert.ReferenceIdeal.Gen Idealize.ShloMosaic Idealize.ShloMosaic.TcCoe Idealize.SL.Sem Idealize.ShloMosaic.StableHlo

variable (x0 : FVec Ideal S4x5000x9 .f32) (x2 : IVec S4x5000 32) (x3 : FVec Ideal S4x500x10 .f32)

/-- A region takes part when its nine numbers do not sum to zero. -/
def validR : IVec S4x5000 1 :=
  cmpf .une (Host.reduceAdd x0 (constant S_ .f32 0x00000000#32) reducesTo_S4x5000x9_S4x5000_d2 h_S_)
    (broadcastInDim S4x5000 ![] bcast_S_S4x5000 (constant S_ .f32 0x00000000#32))

/-- A box takes part when its ten numbers do not sum to zero. -/
def validG : IVec S4x500 1 :=
  cmpf .une (Host.reduceAdd x3 (constant S_ .f32 0x00000000#32) reducesTo_S4x500x10_S4x500_d2 h_S_)
    (broadcastInDim S4x500 ![] bcast_S_S4x500 (constant S_ .f32 0x00000000#32))

/-- The two centre differences, squared. -/
def sq : FVec Ideal S4x5000x500x2 .f32 :=
  let d := subf
    (broadcastInDim S4x5000x500x2 ![0, 1, 2, 3] bcast_S4x5000x1x2_S4x5000x500x2_0_1_2_3
      (broadcastInDim S4x5000x1x2 ![0, 1, 3] bcast_S4x5000x2_S4x5000x1x2_0_1_3
        (extractStridedSlice S4x5000x2 ![0, 0, 0] x0 slices_S4x5000x9_S4x5000x2_0_0_0)))
    (broadcastInDim S4x5000x500x2 ![0, 1, 2, 3] bcast_S4x1x500x2_S4x5000x500x2_0_1_2_3
      (broadcastInDim S4x1x500x2 ![0, 2, 3] bcast_S4x500x2_S4x1x500x2_0_2_3
        (extractStridedSlice S4x500x2 ![0, 0, 0] x3 slices_S4x500x10_S4x500x2_0_0_0)))
  mulf d d

/-- The distance of a region's centre from a box's. -/
def rawDist : FVec Ideal S4x5000x500 .f32 :=
  Host.sqrt (Host.reduceAdd (sq x0 x3) (constant S_ .f32 0x00000000#32) reducesTo_S4x5000x500x2_S4x5000x500_d3 h_S_)

/-- Both of the pair take part. -/
def pair : IVec S4x5000x500 1 :=
  andi
    (broadcastInDim S4x5000x500 ![0, 1, 2] bcast_S4x5000x1_S4x5000x500_0_1_2
      (broadcastInDim S4x5000x1 ![0, 1] bcast_S4x5000_S4x5000x1_0_1 (validR x0)))
    (broadcastInDim S4x5000x500 ![0, 1, 2] bcast_S4x1x500_S4x5000x500_0_1_2
      (broadcastInDim S4x1x500 ![0, 2] bcast_S4x500_S4x1x500_0_2 (validG x3)))

/-- Selects `x` where `p`, a constant elsewhere. -/
def whereC (p : IVec S4x5000x500 1) (x : FVec Ideal S4x5000x500 .f32) (b : BitVec 32) : FVec Ideal S4x5000x500 .f32 :=
  select p x (broadcastInDim S4x5000x500 ![] bcast_S_S4x5000x500 (constant S_ .f32 b))

/-- The first result: the distances of the pairs that take part. -/
def distR : FVec Ideal S4x5000x500 .f32 := whereC (pair x0 x3) (rawDist x0 x3) 0x00000000#32

/-- A label of a region, clipped to the table's range. -/
def clipR : IVec S4x5000 32 :=
  minsi (broadcastInDim S4x5000 ![] bcast_S_S4x5000 (constantI S_ 32 9#32))
    (maxsi (broadcastInDim S4x5000 ![] bcast_S_S4x5000 (constantI S_ 32 0#32)) x2)

/-- The group table's row of each region. -/
def groupR : IVec S4x5000 32 :=
  Host.gather gather_S10_S4x5000x1_S4x5000_n_0_n_n_0_2_1 (fun i => lit0 (S10.rowMajor i))
    (broadcastInDim S4x5000x1 ![0, 1] bcast_S4x5000_S4x5000x1_0_1
      (select (cmpi .slt (clipR x2) (broadcastInDim S4x5000 ![] bcast_S_S4x5000 (constantI S_ 32 0#32)))
        (addi (clipR x2) (broadcastInDim S4x5000 ![] bcast_S_S4x5000 (constantI S_ 32 10#32))) (clipR x2)))

/-- One column of the boxes. -/
def col0 : FVec Ideal S4x500 .f32 :=
  shapeCast S4x500 (extractStridedSlice S4x500x1 ![0, 0, 0] x3 slices_S4x500x10_S4x500x1_0_0_0) shapeCasts_S4x500x1_S4x500

/-- One column of the boxes. -/
def col1 : FVec Ideal S4x500 .f32 :=
  shapeCast S4x500 (extractStridedSlice S4x500x1 ![0, 0, 1] x3 slices_S4x500x10_S4x500x1_0_0_1) shapeCasts_S4x500x1_S4x500

/-- One column of the boxes. -/
def col9 : FVec Ideal S4x500 .f32 :=
  shapeCast S4x500 (extractStridedSlice S4x500x1 ![0, 0, 9] x3 slices_S4x500x10_S4x500x1_0_0_9) shapeCasts_S4x500x1_S4x500

/-- A box's class, clipped to the tables' range. -/
def clipG : IVec S4x500 32 :=
  minsi (broadcastInDim S4x500 ![] bcast_S_S4x500 (constantI S_ 32 9#32))
    (maxsi (broadcastInDim S4x500 ![] bcast_S_S4x500 (constantI S_ 32 0#32)) (fptosi 32 (col9 x3)))

/-- The row a box's class names in a table of ten. -/
def rowG : IVec S4x500x1 32 :=
  broadcastInDim S4x500x1 ![0, 1] bcast_S4x500_S4x500x1_0_1
    (select (cmpi .slt (clipG x3) (broadcastInDim S4x500 ![] bcast_S_S4x500 (constantI S_ 32 0#32)))
      (addi (clipG x3) (broadcastInDim S4x500 ![] bcast_S_S4x500 (constantI S_ 32 10#32))) (clipG x3))

/-- The group table's row of each box. -/
def groupG : IVec S4x500 32 :=
  Host.gather gather_S10_S4x500x1_S4x500_n_0_n_n_0_2_1 (fun i => lit0 (S10.rowMajor i)) (rowG x3)

/-- The pair takes part and is of one group. -/
def same : IVec S4x5000x500 1 :=
  andi (pair x0 x3)
    (cmpi .eq
      (broadcastInDim S4x5000x500 ![0, 1, 2] bcast_S4x5000x1_S4x5000x500_0_1_2
        (broadcastInDim S4x5000x1 ![0, 1] bcast_S4x5000_S4x5000x1_0_1 (groupR x2)))
      (broadcastInDim S4x5000x500 ![0, 1, 2] bcast_S4x1x500_S4x5000x500_0_1_2
        (broadcastInDim S4x1x500 ![0, 2] bcast_S4x500_S4x1x500_0_2 (groupG x3))))

/-- The distances of the pairs of one group, a large number elsewhere. -/
def matchD : FVec Ideal S4x5000x500 .f32 := whereC (same x0 x2 x3) (rawDist x0 x3) 0x4E6E6B28#32

/-- A box's least distance to a region of its group. -/
def minD : FVec Ideal S4x500 .f32 :=
  Host.reduce FloatOps.minimumf (matchD x0 x2 x3) (constant S_ .f32 0x7F800000#32) reducesTo_S4x5000x500_S4x500_d1 h_S_

/-- The second of each pair. -/
def snd2 {ι : Type} (f : ι → EReal × BitVec 32) : ι → BitVec 32 := fun j => (f j).2

/-- The fourth result: which region is the nearest. -/
def bestR : IVec S4x500 32 := snd2
  (Host.argReduce reducer_argmin_f32_i32 (matchD x0 x2 x3) (iotaInDim S4x5000x500 32 1) (constant S_ .f32 0x7F800000#32)
    (constantI S_ 32 0#32) reducesTo_S4x5000x500_S4x500_d1 h_S_)

/-- The near threshold of a box's class. -/
def thrH : FVec Ideal S4x500 .f32 :=
  Host.gather gather_S10_S4x500x1_S4x500_n_0_n_n_0_2_1 (fun i => FloatOps.ofBits .f32 (lit1 (S10.rowMajor i))) (rowG x3)

/-- The medium threshold of a box's class. -/
def thrM : FVec Ideal S4x500 .f32 :=
  Host.gather gather_S10_S4x500x1_S4x500_n_0_n_n_0_2_1 (fun i => FloatOps.ofBits .f32 (lit2 (S10.rowMajor i))) (rowG x3)

/-- The second result. -/
def highR : IVec S4x500 1 := andi (cmpf .olt (minD x0 x2 x3) (thrH x3)) (validG x3)

/-- The third result. -/
def medR : IVec S4x500 1 :=
  andi (andi (noti (highR x0 x2 x3)) (cmpf .olt (minD x0 x2 x3) (thrM x3))) (validG x3)

/-- The boxes neither near nor at medium distance. -/
def missR : IVec S4x500 1 := andi (andi (validG x3) (noti (highR x0 x2 x3))) (noti (medR x0 x2 x3))

/-- The distance of a box from the origin. -/
def range : FVec Ideal S4x500 .f32 := Host.sqrt (addf (mulf (col0 x3) (col0 x3)) (mulf (col1 x3) (col1 x3)))

/-- The fifth result. -/
def nearR : IVec S4x500 1 :=
  andi (missR x0 x2 x3) (cmpf .olt (range x3) (broadcastInDim S4x500 ![] bcast_S_S4x500 (constant S_ .f32 0x41F00000#32)))

/-- The seventh result. -/
def farR : IVec S4x500 1 :=
  andi (missR x0 x2 x3) (cmpf .ogt (range x3) (broadcastInDim S4x500 ![] bcast_S_S4x500 (constant S_ .f32 0x42480000#32)))

/-- The sixth result. -/
def midR : IVec S4x500 1 := andi (andi (missR x0 x2 x3) (noti (nearR x0 x2 x3))) (noti (farR x0 x2 x3))

/-- The eighth result: the regions far from every box. -/
def fpR : IVec S4x5000 1 :=
  andi
    (cmpf .ogt
      (Host.reduce FloatOps.minimumf (whereC (pair x0 x3) (rawDist x0 x3) 0x4E6E6B28#32) (constant S_ .f32 0x7F800000#32)
        reducesTo_S4x5000x500_S4x5000_d2 h_S_)
      (broadcastInDim S4x5000 ![] bcast_S_S4x5000 (constant S_ .f32 0x40800000#32)))
    (validR x0)

set_option maxRecDepth 8192 in
set_option maxHeartbeats 8000000 in
/-- The reference's run: every result is its stage of the arguments, and the arguments end as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = distR (m ((c.tc : Thread nD τ).loc main_arg0)) (m ((c.tc : Thread nD τ).loc main_arg3))
      ∧ r.2.mem ((c.tc : Thread nD τ).loc main_v65) = highR (m ((c.tc : Thread nD τ).loc main_arg0)) (m ((c.tc : Thread nD τ).loc main_arg2)) (m ((c.tc : Thread nD τ).loc main_arg3))
      ∧ r.2.mem ((c.tc : Thread nD τ).loc main_v69) = medR (m ((c.tc : Thread nD τ).loc main_arg0)) (m ((c.tc : Thread nD τ).loc main_arg2)) (m ((c.tc : Thread nD τ).loc main_arg3))
      ∧ r.2.mem ((c.tc : Thread nD τ).loc main_v49) = bestR (m ((c.tc : Thread nD τ).loc main_arg0)) (m ((c.tc : Thread nD τ).loc main_arg2)) (m ((c.tc : Thread nD τ).loc main_arg3))
      ∧ r.2.mem ((c.tc : Thread nD τ).loc main_v84) = nearR (m ((c.tc : Thread nD τ).loc main_arg0)) (m ((c.tc : Thread nD τ).loc main_arg2)) (m ((c.tc : Thread nD τ).loc main_arg3))
      ∧ r.2.mem ((c.tc : Thread nD τ).loc main_v91) = midR (m ((c.tc : Thread nD τ).loc main_arg0)) (m ((c.tc : Thread nD τ).loc main_arg2)) (m ((c.tc : Thread nD τ).loc main_arg3))
      ∧ r.2.mem ((c.tc : Thread nD τ).loc main_v87) = farR (m ((c.tc : Thread nD τ).loc main_arg0)) (m ((c.tc : Thread nD τ).loc main_arg2)) (m ((c.tc : Thread nD τ).loc main_arg3))
      ∧ r.2.mem ((c.tc : Thread nD τ).loc main_v96) = fpR (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ?_)
    (run_hlo _ _ (by hlo_seq) (by decide) (by decide) (by simp)
      (by intro _ h; (repeat (cases h with | head => rfl | tail _ h => ?_)); exact nomatch h) _ _)
  refine ⟨(h c main_v21).trans ?_, (h c main_v65).trans ?_, (h c main_v69).trans ?_, (h c main_v49).trans ?_,
    (h c main_v84).trans ?_, (h c main_v91).trans ?_, (h c main_v87).trans ?_, (h c main_v96).trans ?_,
    (h c main_arg0).trans ?_, (h c main_arg1).trans ?_, (h c main_arg2).trans ?_, (h c main_arg3).trans ?_, (h c main_arg4).trans ?_⟩ <;>
  (clear h
   simp only [TRef.binary, TRef.ternary, TRef.unary, TRef.nullary, TRef.quaternary, TRef.toBuf, TRef.ofBuf, cast_eq]
   after_results_simp
   first | done | rfl)

set_option maxRecDepth 8192 in
set_option maxHeartbeats 8000000 in
/-- The reference runs, leaves its arguments unchanged, and ends quiescent. -/
theorem quiet : Cert.quiescent_ReferenceIdeal (hReferenceIdeal := facts) := by
  intro m g hpre
  hlo_run
  · exact fun _ => ⟨trivial, trivial, trivial, trivial, trivial⟩
  · exact sem_eq_zero_of_no_sems (sig := sig) (by decide) _

end Cert.RefVal

end
-- ==== Proof.Fiber.lean ====
/- A reduction over one axis of an array of three axes, read at an index of the two axes left. -/
module

public import Idealize.ShloMosaic.Lib.Pointwise
public import Idealize.ShloMosaic.PureOps.Ideal.Laws

@[expose] public section

noncomputable section

namespace Cert.Fiber

open Idealize.ShloMosaic

variable {n0 n1 n2 : ℕ} {u : Shape}

/-- The least value along the last axis. -/
theorem reduce_last (y : FVec Ideal ⟨3, ![n0, n1, n2]⟩ .f32) (e : FVec Ideal u .f32)
    (h : (⟨3, ![n0, n1, n2]⟩ : Shape).ReducesTo [2] ⟨2, ![n0, n1]⟩) (hu : 0 < u.numel) (b : Fin n0) (k : Fin n1) :
    Host.reduce FloatOps.minimumf y e h hu (ix2 b k) = Finset.fold min (e (Shape.Idx.first hu)) (fun g : Fin n2 => y (ix3 b k g)) Finset.univ := by
  pointwise

/-- A fold of pairs along the middle axis, where no value compares unequal to itself. -/
theorem argReduce_mid {s t : Shape} {axes : List (Fin s.rank)} (f : EReal × BitVec 32 → EReal × BitVec 32 → EReal × BitVec 32)
    (x : FVec Ideal s .f32) (y : IVec s 32) (ex : FVec Ideal u .f32) (ey : IVec u 32) (h : s.ReducesTo axes t) (hu : 0 < u.numel) (j : t.Idx) :
    Host.argReduce (F := Ideal) (φ := .f32) f x y ex ey h hu j
      = (Host.argReduceFiber x y h j).foldl f (ex (Shape.Idx.first hu), ey (Shape.Idx.first hu)) := by
  rw [Ideal.argReduce_eq_reduce2, Host.reduce2_eq_foldl_fiber]

/-- The pairs such a fold goes over. -/
theorem mem_mid (x : FVec Ideal ⟨3, ![n0, n1, n2]⟩ .f32) (y : IVec ⟨3, ![n0, n1, n2]⟩ 32)
    (h : (⟨3, ![n0, n1, n2]⟩ : Shape).ReducesTo [1] ⟨2, ![n0, n2]⟩) (b : Fin n0) (g : Fin n2) (p : EReal × BitVec 32) :
    p ∈ Host.argReduceFiber x y h (ix2 b g) ↔ ∃ k : Fin n1, p = (x (ix3 b k g), y (ix3 b k g)) := by
  unfold Host.argReduceFiber
  simp only [List.mem_map, List.mem_filter, List.mem_finRange, true_and, decide_eq_true_eq]
  constructor
  · rintro ⟨n, hn, rfl⟩
    obtain ⟨k, hk⟩ := (Shape.ReducesTo.fiber_r3_a1 h _ _).mp hn
    refine ⟨k, ?_⟩
    rw [← hk]
    rfl
  · rintro ⟨k, rfl⟩
    refine ⟨(⟨3, ![n0, n1, n2]⟩ : Shape).rowMajor (ix3 b k g), ?_, ?_⟩
    · rw [Equiv.symm_apply_apply]
      exact (Shape.ReducesTo.fiber_r3_a1 h _ _).mpr ⟨k, rfl⟩
    · rw [Equiv.symm_apply_apply]

end Cert.Fiber

end
-- ==== Proof.RVals.lean ====
/- The reference's stages read at an index. -/
module

public import proofs.«01_k».proof.Proof.RefRun
public import proofs.«01_k».proof.Proof.Scan
public import proofs.«01_k».proof.Proof.Fiber
public import Idealize.ShloMosaic.Lib.Pointwise
public import Idealize.ShloMosaic.Lib.ValueIdxCore

@[expose] public section

noncomputable section

namespace Cert.RefVal

open Cert.ReferenceIdeal Cert.ReferenceIdeal.Gen Idealize.ShloMosaic Cert.Scal Cert.Scan

variable (x0 : FVec Ideal S4x5000x9 .f32) (x2 : IVec S4x5000 32) (x3 : FVec Ideal S4x500x10 .f32)

/-- Whether a region takes part. -/
abbrev vR (b : Fin 4) (k : Fin 5000) : BitVec 1 := part (∑ a, x0 (ix3 b k a))

/-- Whether a box takes part. -/
abbrev vG (b : Fin 4) (g : Fin 500) : BitVec 1 := part (∑ a, x3 (ix3 b g a))

/-- The distance of a region from a box. -/
abbrev dRG (b : Fin 4) (k : Fin 5000) (g : Fin 500) : EReal :=
  dst (x0 (ix3 b k 0)) (x0 (ix3 b k 1)) (x3 (ix3 b g 0)) (x3 (ix3 b g 1))

/-- A region's clipped label. -/
abbrev nR (b : Fin 4) (k : Fin 5000) : ℤ := clip (x2 (ix2 b k)).toInt

/-- A box's clipped class. -/
abbrev nG (b : Fin 4) (g : Fin 500) : ℤ := clip (Ideal.fptosi 32 (x3 (ix3 b g 9))).toInt

/-- Whether a region takes part, as the reference computes it. -/
theorem validR_apply (b : Fin 4) (k : Fin 5000) : validR x0 (ix2 b k) = vR x0 b k := by
  unfold vR
  pointwise [validR]

/-- Whether a box takes part, as the reference computes it. -/
theorem validG_apply (b : Fin 4) (g : Fin 500) : validG x3 (ix2 b g) = vG x3 b g := by
  unfold vG
  pointwise [validG]

/-- The distance of a region from a box, as the reference computes it. -/
theorem rawDist_apply (b : Fin 4) (k : Fin 5000) (g : Fin 500) : rawDist x0 x3 (ix3 b k g) = dRG x0 x3 b k g := by
  unfold dRG dst
  have h : rawDist x0 x3 (ix3 b k g) = Ideal.sqrt (∑ x : Fin 2,
      (x0 (ix3 b k ⟨x, by omega⟩) - x3 (ix3 b g ⟨x, by omega⟩)) * (x0 (ix3 b k ⟨x, by omega⟩) - x3 (ix3 b g ⟨x, by omega⟩))) := by
    pointwise [rawDist, sq]
  rw [h, Fin.sum_univ_two]
  rfl

/-- Whether a region and a box both take part. -/
theorem pair_apply (b : Fin 4) (k : Fin 5000) (g : Fin 500) : pair x0 x3 (ix3 b k g) = IntOp.andi (vR x0 b k) (vG x3 b g) := by
  rw [← validR_apply, ← validG_apply]
  pointwise [pair]

/-- A choice between an array and a constant, at an index. -/
theorem whereC_apply (p : IVec S4x5000x500 1) (x : FVec Ideal S4x5000x500 .f32) (w : BitVec 32) (b : Fin 4) (k : Fin 5000) (g : Fin 500) :
    whereC p x w (ix3 b k g) = Scalar.select (p (ix3 b k g)) (x (ix3 b k g)) (Ideal.ofBits .f32 w) := by
  pointwise [whereC]

/-- The first result at an index. -/
theorem distR_apply (b : Fin 4) (k : Fin 5000) (g : Fin 500) :
    distR x0 x3 (ix3 b k g) = Scalar.select (IntOp.andi (vR x0 b k) (vG x3 b g)) (dRG x0 x3 b k g) 0 := by
  unfold distR
  rw [whereC_apply, pair_apply, rawDist_apply]
  congr 1
  simp [Ideal.ofBits, Ideal.ieee]

/-- A clipped label names its own row. -/
theorem row_word (v : BitVec 32) (w : BitVec 32) (hw : w = IntOp.minsi 9#32 (IntOp.maxsi 0#32 v)) :
    (Scalar.select (IntOp.cmpi .slt w 0#32) (IntOp.addi w 10#32) w).toInt = clip v.toInt := by
  have h1 := clip_nonneg v.toInt
  have h2 := clip_le v.toInt
  rw [hw, clip_word]
  generalize clip v.toInt = n at h1 h2
  interval_cases n <;> decide

/-- The word of the number one. -/
theorem one_bits : Ideal.ofBits .f32 0x3F800000#32 = ((1 : ℝ) : EReal) := by
  simp [Ideal.ofBits, Ideal.ieee, -EReal.coe_mul, -EReal.coe_neg]; norm_num

/-- The group table at a clipped label. -/
theorem lit0_row (n : ℤ) (h1 : 0 ≤ n) (h2 : n ≤ 9) (p : min n.toNat (10 - 1) < 10) :
    lit0 (S10.rowMajor (ValueIdx.ix1 ⟨min n.toNat (10 - 1), p⟩)) = BitVec.ofInt 32 (groupOf n) := by
  interval_cases n <;> rfl

/-- The near threshold table at a clipped class. -/
theorem lit1_row (n : ℤ) (h1 : 0 ≤ n) (h2 : n ≤ 9) (p : min n.toNat (10 - 1) < 10) :
    Ideal.ofBits .f32 (lit1 (S10.rowMajor (ValueIdx.ix1 ⟨min n.toNat (10 - 1), p⟩))) = ((Scal.thrH n : ℝ) : EReal) := by
  interval_cases n
  · exact c_two.trans (congrArg Real.toEReal (by norm_num [Scal.thrH]))
  · exact c_two_half.trans (congrArg Real.toEReal (by norm_num [Scal.thrH]))
  · exact c_two_half.trans (congrArg Real.toEReal (by norm_num [Scal.thrH]))
  · exact c_seven_half.trans (congrArg Real.toEReal (by norm_num [Scal.thrH]))
  · exact c_two_half.trans (congrArg Real.toEReal (by norm_num [Scal.thrH]))
  · exact c_half.trans (congrArg Real.toEReal (by norm_num [Scal.thrH]))
  · exact one_bits.trans (congrArg Real.toEReal (by norm_num [Scal.thrH]))
  · exact one_bits.trans (congrArg Real.toEReal (by norm_num [Scal.thrH]))
  · exact c_half.trans (congrArg Real.toEReal (by norm_num [Scal.thrH]))
  · exact c_half.trans (congrArg Real.toEReal (by norm_num [Scal.thrH]))

/-- The medium threshold table at a clipped class. -/
theorem lit2_row (n : ℤ) (h1 : 0 ≤ n) (h2 : n ≤ 9) (p : min n.toNat (10 - 1) < 10) :
    Ideal.ofBits .f32 (lit2 (S10.rowMajor (ValueIdx.ix1 ⟨min n.toNat (10 - 1), p⟩))) = ((Scal.thrM n : ℝ) : EReal) := by
  interval_cases n
  · exact c_four.trans (congrArg Real.toEReal (by norm_num [Scal.thrM]))
  · exact c_four.trans (congrArg Real.toEReal (by norm_num [Scal.thrM]))
  · exact c_four.trans (congrArg Real.toEReal (by norm_num [Scal.thrM]))
  · exact c_four.trans (congrArg Real.toEReal (by norm_num [Scal.thrM]))
  · exact c_four.trans (congrArg Real.toEReal (by norm_num [Scal.thrM]))
  · exact c_two_half.trans (congrArg Real.toEReal (by norm_num [Scal.thrM]))
  · exact c_two_half.trans (congrArg Real.toEReal (by norm_num [Scal.thrM]))
  · exact c_two_half.trans (congrArg Real.toEReal (by norm_num [Scal.thrM]))
  · exact c_two.trans (congrArg Real.toEReal (by norm_num [Scal.thrM]))
  · exact c_two.trans (congrArg Real.toEReal (by norm_num [Scal.thrM]))

/-- The place a table lookup reads its index from. -/
theorem takeIdx_ix2 {R C : ℕ} (b : Fin R) (k : Fin C) : ValueIdx.takeIdx (ix2 b k) = ix3 b k 0 := by
  funext a
  match a with
  | ⟨0, _⟩ => rfl
  | ⟨1, _⟩ => rfl
  | ⟨2, _⟩ => rfl

/-- A region's group, as the reference looks it up. -/
theorem groupR_apply (b : Fin 4) (k : Fin 5000) : groupR x2 (ix2 b k) = BitVec.ofInt 32 (groupOf (nR x2 b k)) := by
  have hc : clipR x2 (ix2 b k) = IntOp.minsi 9#32 (IntOp.maxsi 0#32 (x2 (ix2 b k))) := by pointwise [clipR]
  unfold groupR
  refine (ValueIdx.gather_take_apply (by decide) _ _ _ _).trans ?_
  have hrow := row_word (x2 (ix2 b k)) _ hc
  simp only [takeIdx_ix2]
  have e : (broadcastInDim S4x5000x1 ![0, 1] bcast_S4x5000_S4x5000x1_0_1
      (select (cmpi .slt (clipR x2) (broadcastInDim S4x5000 ![] bcast_S_S4x5000 (constantI S_ 32 0#32)))
        (addi (clipR x2) (broadcastInDim S4x5000 ![] bcast_S_S4x5000 (constantI S_ 32 10#32))) (clipR x2))) (ix3 b k 0)
      = Scalar.select (IntOp.cmpi .slt (clipR x2 (ix2 b k)) 0#32) (IntOp.addi (clipR x2 (ix2 b k)) 10#32) (clipR x2 (ix2 b k)) := by
    generalize clipR x2 = y
    pointwise
  simp only [e, hrow]
  exact lit0_row _ (clip_nonneg _) (clip_le _) _

/-- The row a box's class names. -/
theorem rowG_apply (b : Fin 4) (g : Fin 500) : (rowG x3 (ValueIdx.takeIdx (ix2 b g))).toInt = nG x3 b g := by
  have hc : clipG x3 (ix2 b g) = IntOp.minsi 9#32 (IntOp.maxsi 0#32 (Ideal.fptosi 32 (x3 (ix3 b g 9)))) := by
    pointwise [clipG, col9]
    rfl
  have hrow := row_word (Ideal.fptosi 32 (x3 (ix3 b g 9))) _ hc
  unfold nG
  rw [← hrow, takeIdx_ix2]
  unfold rowG
  generalize clipG x3 = y
  pointwise

/-- A box's group, as the reference looks it up. -/
theorem groupG_apply (b : Fin 4) (g : Fin 500) : groupG x3 (ix2 b g) = BitVec.ofInt 32 (groupOf (nG x3 b g)) := by
  unfold groupG
  refine (ValueIdx.gather_take_apply (by decide) _ _ _ _).trans ?_
  simp only [rowG_apply]
  exact lit0_row _ (clip_nonneg _) (clip_le _) _

/-- A box's high threshold, as the reference looks it up. -/
theorem thrH_apply (b : Fin 4) (g : Fin 500) : thrH x3 (ix2 b g) = Scal.thrH (nG x3 b g) := by
  unfold thrH
  refine (ValueIdx.gather_take_apply (by decide) _ _ _ _).trans ?_
  simp only [rowG_apply]
  exact lit1_row _ (clip_nonneg _) (clip_le _) _

/-- A box's medium threshold, as the reference looks it up. -/
theorem thrM_apply (b : Fin 4) (g : Fin 500) : thrM x3 (ix2 b g) = Scal.thrM (nG x3 b g) := by
  unfold thrM
  refine (ValueIdx.gather_take_apply (by decide) _ _ _ _).trans ?_
  simp only [rowG_apply]
  exact lit2_row _ (clip_nonneg _) (clip_le _) _

/-- A pair takes part and is of one group. -/
abbrev one (b : Fin 4) (k : Fin 5000) (g : Fin 500) : Prop :=
  vR x0 b k = 1#1 ∧ vG x3 b g = 1#1 ∧ groupOf (nR x2 b k) = groupOf (nG x3 b g)

/-- Groups compared as words are compared as numbers. -/
theorem groups_eq (n k : ℤ) : IntOp.cmpi .eq (BitVec.ofInt 32 (groupOf n)) (BitVec.ofInt 32 (groupOf k)) = BitVec.ofBool (decide (groupOf n = groupOf k)) := by
  unfold groupOf
  split_ifs <;> decide

/-- Whether a region and a box match. -/
theorem same_apply (b : Fin 4) (k : Fin 5000) (g : Fin 500) :
    same x0 x2 x3 (ix3 b k g) = BitVec.ofBool (decide (one x0 x2 x3 b k g)) := by
  have e : same x0 x2 x3 (ix3 b k g) = IntOp.andi (pair x0 x3 (ix3 b k g)) (IntOp.cmpi .eq (groupR x2 (ix2 b k)) (groupG x3 (ix2 b g))) := by
    unfold same
    generalize pair x0 x3 = p
    generalize groupR x2 = u
    generalize groupG x3 = v
    pointwise
  rw [e, pair_apply, groupR_apply, groupG_apply, groups_eq]
  unfold one
  generalize vR x0 b k = p
  generalize vG x3 b g = q
  have hb : ∀ b : BitVec 1, b = 0#1 ∨ b = 1#1 := by decide
  rcases hb p with rfl | rfl <;> rcases hb q with rfl | rfl <;> by_cases h : groupOf (nR x2 b k) = groupOf (nG x3 b g) <;> simp [h, IntOp.andi]

/-- The distance of a region from a box of its group, as a number; the large number for others. -/
def fR (b : Fin 4) (k : Fin 5000) (g : Fin 500) : EReal := if one x0 x2 x3 b k g then dRG x0 x3 b k g else big

/-- The matching distance at an index. -/
theorem matchD_apply (b : Fin 4) (k : Fin 5000) (g : Fin 500) : matchD x0 x2 x3 (ix3 b k g) = fR x0 x2 x3 b k g := by
  unfold matchD fR
  rw [whereC_apply, same_apply, rawDist_apply, c_big]
  by_cases h : one x0 x2 x3 b k g <;> simp [h, Scalar.select]

/-- The smallest matching distance of a box. -/
theorem minD_apply (b : Fin 4) (g : Fin 500) :
    minD x0 x2 x3 (ix2 b g) = Finset.fold min ⊤ (fun k : Fin 5000 => fR x0 x2 x3 b k g) Finset.univ := by
  simp only [← matchD_apply]
  unfold minD
  generalize matchD x0 x2 x3 = y
  pointwise
  rw [c_top]

end Cert.RefVal

end
-- ==== Proof.RRed.lean ====
/- The reference's reductions read at an index. -/
module

public import proofs.«01_k».proof.Proof.RefRun
public import proofs.«01_k».proof.Proof.RVals
public import proofs.«01_k».proof.Proof.Fiber
public import Idealize.ShloMosaic.Lib.Pointwise
public import Idealize.ShloMosaic.Lib.ValueIdxCore

@[expose] public section

noncomputable section

namespace Cert.RefVal

open Cert.ReferenceIdeal Cert.ReferenceIdeal.Gen Idealize.ShloMosaic Cert.Scal Cert.Scan

variable (x0 : FVec Ideal S4x5000x9 .f32) (x2 : IVec S4x5000 32) (x3 : FVec Ideal S4x500x10 .f32)

/-- A least value along the boxes. -/
theorem reduce_boxes (y : FVec Ideal S4x5000x500 .f32) (b : Fin 4) (k : Fin 5000) :
    Host.reduce FloatOps.minimumf y (constant S_ .f32 0x7F800000#32) reducesTo_S4x5000x500_S4x5000_d2 h_S_ (ix2 b k)
      = Finset.fold min ⊤ (fun g : Fin 500 => y (ix3 b k g)) Finset.univ :=
  (Fiber.reduce_last y _ _ _ b k).trans (congrArg (fun e => Finset.fold min e (fun g : Fin 500 => y (ix3 b k g)) Finset.univ) c_top)

/-- The values along the regions of one box, past the last one too. -/
def seq (b : Fin 4) (g : Fin 500) (k : ℕ) : EReal := if h : k < 5000 then fR x0 x2 x3 b ⟨k, h⟩ g else big

/-- The reference's step on (distance, place) pairs keeps the smaller distance, then the smaller place. -/
theorem reducer_eq : (reducer_argmin_f32_i32 (F := Ideal)) = keep := by
  funext a b
  have hb : ∀ b : BitVec 1, b = 0#1 ∨ b = 1#1 := by decide
  unfold reducer_argmin_f32_i32 keep
  have e1 : FloatOps.cmpf (F := Ideal) (φ := .f32) .olt a.1 b.1 = BitVec.ofBool (decide (a.1 < b.1)) := rfl
  have e2 : FloatOps.cmpf (F := Ideal) (φ := .f32) .une a.1 a.1 = BitVec.ofBool (decide (a.1 ≠ a.1)) := rfl
  have e3 : FloatOps.cmpf (F := Ideal) (φ := .f32) .oeq a.1 b.1 = BitVec.ofBool (decide (a.1 = b.1)) := rfl
  have e4 : IntOp.cmpi .slt a.2 b.2 = BitVec.ofBool (decide (a.2.toInt < b.2.toInt)) := rfl
  simp only [e1, e2, e3, e4]
  by_cases h1 : a.1 < b.1 <;> by_cases h2 : a.1 = b.1 <;> by_cases h3 : a.2.toInt < b.2.toInt <;>
    simp [h1, h2, h3, Scalar.select, IntOp.ori, IntOp.andi]

/-- The far-from-every-box mark from the smallest distance. -/
theorem fp_shape (z : FVec Ideal S4x5000 .f32) (v : IVec S4x5000 1) (b : Fin 4) (k : Fin 5000) :
   andi (cmpf .ogt z (broadcastInDim S4x5000 ![] bcast_S_S4x5000 (constant S_ .f32 0x40800000#32))) v (ix2 b k) =
    IntOp.andi (BitVec.ofBool (decide (((4 : ℝ) : EReal) < z (ix2 b k)))) (v (ix2 b k)) := by
  rw [← c_four]
  pointwise

/-- The smallest distance of a region from the boxes. -/
theorem fp_min (b : Fin 4) (k : Fin 5000) : Host.reduce FloatOps.minimumf (whereC (pair x0 x3) (rawDist x0 x3) 0x4E6E6B28#32) (constant S_ .f32 0x7F800000#32)
        reducesTo_S4x5000x500_S4x5000_d2 h_S_ (ix2 b k) = Finset.fold min ⊤ (fun g : Fin 500 =>
      Scalar.select (IntOp.andi (vR x0 b k) (vG x3 b g)) (dRG x0 x3 b k g) big) Finset.univ := by
  rw [reduce_boxes]
  refine congrArg (fun f => Finset.fold min ⊤ f Finset.univ) (funext fun g => ?_)
  rw [whereC_apply, pair_apply, rawDist_apply, c_big]

/-- The eighth result at a region. -/
theorem fpR_apply (b : Fin 4) (k : Fin 5000) :
    fpR x0 x3 (ix2 b k) = IntOp.andi (BitVec.ofBool (decide (((4 : ℝ) : EReal) < Finset.fold min ⊤ (fun g : Fin 500 =>
      Scalar.select (IntOp.andi (vR x0 b k) (vG x3 b g)) (dRG x0 x3 b k g) big) Finset.univ))) (vR x0 b k) := by
  unfold fpR
  rw [fp_shape, fp_min, validR_apply]

/-- The second component of a known pair. -/
theorem snd2_of {ι : Type} (f : ι → EReal × BitVec 32) (j : ι) (q : EReal × BitVec 32) (h : f j = q) : snd2 f j = q.2 := congrArg Prod.snd h

/-- The fourth result at a box is the place that the fold over the box's fiber ends with. -/
theorem best_fold (b : Fin 4) (g : Fin 500) :
    bestR x0 x2 x3 (ix2 b g) = ((Host.argReduceFiber (matchD x0 x2 x3) (iotaInDim S4x5000x500 32 1)
      reducesTo_S4x5000x500_S4x500_d1 (ix2 b g)).foldl keep ((⊤ : EReal), 0#32)).2 := by
  unfold bestR
  have hp : ((constant (F := Ideal) S_ .f32 0x7F800000#32) (Shape.Idx.first h_S_), (constantI S_ 32 0#32) (Shape.Idx.first h_S_))
      = ((⊤ : EReal), 0#32) := Prod.ext c_top rfl
  refine snd2_of _ _ _ ?_
  rw [Fiber.argReduce_mid, reducer_eq, hp]

/-- The pairs of a box's fiber are the matching distances with their places. -/
theorem best_mem (b : Fin 4) (g : Fin 500) (p : EReal × BitVec 32) :
    p ∈ Host.argReduceFiber (matchD x0 x2 x3) (iotaInDim S4x5000x500 32 1) reducesTo_S4x5000x500_S4x500_d1 (ix2 b g) ↔ ∃ k, k < 5000 ∧ p = (seq x0 x2 x3 b g k, BitVec.ofNat 32 k) := by
  refine (Fiber.mem_mid _ _ _ b g p).trans ?_
  constructor
  · rintro ⟨k, rfl⟩
    refine ⟨k, k.isLt, Prod.ext ((matchD_apply x0 x2 x3 b k g).trans ?_) rfl⟩
    unfold seq
    rw [dif_pos k.isLt]
  · rintro ⟨k, hk, rfl⟩
    refine ⟨⟨k, hk⟩, Prod.ext (Eq.symm ((matchD_apply x0 x2 x3 b ⟨k, hk⟩ g).trans ?_)) rfl⟩
    unfold seq
    rw [dif_pos hk]

/-- The fourth result is the place a fold over the box's regions keeps. -/
theorem bestR_apply (b : Fin 4) (g : Fin 500) :
    ∃ L : List (EReal × BitVec 32), bestR x0 x2 x3 (ix2 b g) = (L.foldl keep (⊤, 0#32)).2
      ∧ ∀ p, p ∈ L ↔ ∃ k, k < 5000 ∧ p = (seq x0 x2 x3 b g k, BitVec.ofNat 32 k) :=
  ⟨_, best_fold x0 x2 x3 b g, best_mem x0 x2 x3 b g⟩

/-- The second result read at a box. -/
theorem highR_apply (b : Fin 4) (g : Fin 500) : highR x0 x2 x3 (ix2 b g) =
    IntOp.andi (BitVec.ofBool (decide (minD x0 x2 x3 (ix2 b g) < thrH x3 (ix2 b g)))) (validG x3 (ix2 b g)) := by
  unfold highR
  generalize minD x0 x2 x3 = d
  generalize thrH x3 = t
  generalize validG x3 = v
  pointwise

/-- The third result read at a box. -/
theorem medR_apply (b : Fin 4) (g : Fin 500) : medR x0 x2 x3 (ix2 b g) =
    IntOp.andi (IntOp.andi (~~~ highR x0 x2 x3 (ix2 b g)) (BitVec.ofBool (decide (minD x0 x2 x3 (ix2 b g) < thrM x3 (ix2 b g))))) (validG x3 (ix2 b g)) := by
  unfold medR
  generalize highR x0 x2 x3 = h
  generalize minD x0 x2 x3 = d
  generalize thrM x3 = t
  generalize validG x3 = v
  pointwise

/-- The missed boxes read at a box. -/
theorem missR_apply (b : Fin 4) (g : Fin 500) : missR x0 x2 x3 (ix2 b g) =
    IntOp.andi (IntOp.andi (validG x3 (ix2 b g)) (~~~ highR x0 x2 x3 (ix2 b g))) (~~~ medR x0 x2 x3 (ix2 b g)) := by
  unfold missR
  generalize medR x0 x2 x3 = h
  generalize highR x0 x2 x3 = d
  generalize validG x3 = v
  pointwise

/-- A box's distance from the origin. -/
theorem range_apply (b : Fin 4) (g : Fin 500) : range x3 (ix2 b g) =
    Ideal.sqrt (x3 (ix3 b g 0) * x3 (ix3 b g 0) + x3 (ix3 b g 1) * x3 (ix3 b g 1)) := by
  pointwise [range, col0, col1]

/-- The fifth result read at a box. -/
theorem nearR_apply (b : Fin 4) (g : Fin 500) : nearR x0 x2 x3 (ix2 b g) =
    IntOp.andi (missR x0 x2 x3 (ix2 b g)) (BitVec.ofBool (decide (range x3 (ix2 b g) < Ideal.ofBits .f32 0x41F00000#32))) := by
  unfold nearR
  generalize missR x0 x2 x3 = h
  generalize range x3 = t
  pointwise

/-- The seventh result read at a box. -/
theorem farR_apply (b : Fin 4) (g : Fin 500) : farR x0 x2 x3 (ix2 b g) =
    IntOp.andi (missR x0 x2 x3 (ix2 b g)) (BitVec.ofBool (decide (Ideal.ofBits .f32 0x42480000#32 < range x3 (ix2 b g)))) := by
  unfold farR
  generalize missR x0 x2 x3 = h
  generalize range x3 = t
  pointwise

/-- The sixth result read at a box. -/
theorem midR_apply (b : Fin 4) (g : Fin 500) : midR x0 x2 x3 (ix2 b g) =
    IntOp.andi (IntOp.andi (missR x0 x2 x3 (ix2 b g)) (~~~ nearR x0 x2 x3 (ix2 b g))) (~~~ farR x0 x2 x3 (ix2 b g)) := by
  unfold midR
  generalize missR x0 x2 x3 = h
  generalize nearR x0 x2 x3 = t
  generalize farR x0 x2 x3 = u
  pointwise

end Cert.RefVal

end
-- ==== Proof.KScan.lean ====
/- The kernel's running minimum over a batch's blocks, and the marks its last point stores, in the reference's terms. -/
module

public import proofs.«01_k».proof.Proof.KMarks
public import proofs.«01_k».proof.Proof.KBlk
public import proofs.«01_k».proof.Proof.RRed

@[expose] public section

noncomputable section

namespace Cert.KVal

open Cert.KernelIdeal Cert.KernelIdeal.Gen Idealize.ShloMosaic Idealize.ShloMosaic.TcCoe Idealize.SL.Sem Cert.Scal Cert.Scan Cert.Marks Cert.RefVal

variable (m : (ℓ : Loc nD τ sig) → Buf (Elt Ideal) ℓ)

/-- Whether a staged region takes part. -/
theorem valid_block (c : Dev nD) (t : Fin cfg0.N) (k : Fin 1000) :
    k0_pay21 (F := Ideal) (iblk m c 0 t) (ix2 k 0) = vR (A0 m c) (bOf t) (kOf t k) :=
  (valid0 _ k).trans (congrArg part (Finset.sum_congr rfl fun a _ => iblk0_apply m c t k a))

/-- Whether a staged box takes part. -/
theorem box_valid (c : Dev nD) (t : Fin cfg0.N) (g : Fin 500) :
    k0_pay26 (F := Ideal) (iblk m c 2 t) (ix2 0 g) = vG (A3 m c) (bOf t) g :=
  (valid2 _ g).trans (congrArg part (Finset.sum_congr rfl fun a _ => iblk2_apply m c t a g))

/-- The class of a staged box. -/
theorem box_class (c : Dev nD) (t : Fin cfg0.N) (g : Fin 500) : cls (iblk m c 2 t) g = nG (A3 m c) (bOf t) g := by
  unfold cls nG
  rw [iblk2_apply]

/-- The distance of a staged region from a staged box. -/
theorem block_dist (c : Dev nD) (t : Fin cfg0.N) (k : Fin 1000) (g : Fin 500) :
    Ideal.sqrt (sqB (iblk m c 0 t) (iblk m c 2 t) (ix2 k g)) = dRG (A0 m c) (A3 m c) (bOf t) (kOf t k) g := by
  unfold dRG
  rw [sqB_apply, iblk0_apply, iblk0_apply, iblk2_apply, iblk2_apply]

/-- A block's matched distance is the reference's. -/
theorem block_match (c : Dev nD) (t : Fin cfg0.N) (k : Fin 1000) (g : Fin 500) :
    mdB (iblk m c 0 t) (iblk m c 1 t) (iblk m c 2 t) k g = seq (A0 m c) (A2 m c) (A3 m c) (bOf t) g (1000 * (t.val % 5) + k) := by
  unfold seq
  rw [dif_pos (kOf t k).isLt]
  unfold mdB fR
  rw [group0 _ _ k _ (iblk1_apply m c t k), group2, valid_block, box_valid, box_class, block_dist]
  have h := match_eq (vR (A0 m c) (bOf t) (kOf t k)) (vG (A3 m c) (bOf t) g) (nR (A2 m c) (bOf t) (kOf t k)) (nG (A3 m c) (bOf t) g)
  exact if_congr h rfl rfl

/-- The place of the first region of a tile, as a number. -/
theorem base_eq (r : ℕ) (hr : r < 5) : (((Scalar.muli (BitVec.ofNat 32 r) 1000#32).toInt : ℝ) : EReal) = (((1000 * r : ℕ) : ℝ) : EReal) := by
  have h : ∀ r : Fin 5, (Scalar.muli (BitVec.ofNat 32 r.val) 1000#32).toInt = ((1000 * r.val : ℕ) : ℤ) := by decide
  rw [h ⟨r, hr⟩]
  norm_cast

/-- One point's step of the running minimum. -/
theorem step (c : Dev nD) (t : Fin cfg0.N) (g : Fin 500) (p0 p1 : FVec Ideal S1x500 .f32)
    (hb : Best (seq (A0 m c) (A2 m c) (A3 m c) (bOf t) g) (1000 * (t.val % 5)) (p0 (ix2 0 g)) (p1 (ix2 0 g))) :
    Best (seq (A0 m c) (A2 m c) (A3 m c) (bOf t) g) (1000 * (t.val % 5) + 1000)
      (minB (iblk m c 0 t) (iblk m c 1 t) (iblk m c 2 t) p0 (ix2 0 g))
      (argB (BitVec.ofNat 32 ((grid0.coords t) 1)) (iblk m c 0 t) (iblk m c 1 t) (iblk m c 2 t) p0 p1 (ix2 0 g)) := by
  rw [minB_apply, argB_apply]
  refine Best.step (by norm_num) hb (fun k : Fin 1000 => mdB (iblk m c 0 t) (iblk m c 1 t) (iblk m c 2 t) k g)
    (fun k => block_match m c t k g) _ _ _ rfl rfl ?_
  rw [tile t]
  exact base_eq _ (Nat.mod_lt _ (by norm_num))

/-- After a point the running minimum is that of the batch's regions so far. -/
theorem inv (c : Dev nD) (g : Fin 500) : ∀ (n : ℕ) (h : n < cfg0.N),
    Best (seq (A0 m c) (A2 m c) (A3 m c) (bOf ⟨n, h⟩) g) (1000 * (n % 5) + 1000) (run0 m c n h (ix2 0 g)) (run1 m c n h (ix2 0 g)) := by
  intro n
  induction n with
  | zero =>
    intro h
    rw [run0_A m c ⟨0, h⟩ rfl, run1_A m c ⟨0, h⟩ rfl]
    refine step m c ⟨0, h⟩ g _ _ ?_
    rw [pay35_apply, pay36_apply]
    exact Best.zero _
  | succ n ih =>
    intro h
    have hN : n + 1 < 20 := pt_lt ⟨n + 1, h⟩
    by_cases h0 : (n + 1) % 5 = 0
    · rw [run0_A m c ⟨n + 1, h⟩ h0, run1_A m c ⟨n + 1, h⟩ h0]
      refine step m c ⟨n + 1, h⟩ g _ _ ?_
      rw [pay35_apply, pay36_apply]
      show Best _ (1000 * ((n + 1) % 5)) _ _
      rw [h0]
      exact Best.zero _
    · have hp := ih (Nat.lt_of_succ_lt h)
      have e1 : 1000 * (n % 5) + 1000 = 1000 * ((n + 1) % 5) := by omega
      have e2 : bOf ⟨n, Nat.lt_of_succ_lt h⟩ = bOf ⟨n + 1, h⟩ := Fin.ext (show n / 5 = (n + 1) / 5 by omega)
      rw [e1, e2] at hp
      by_cases h1 : (n + 1) % 5 = 4
      · rw [run0_C m c ⟨n + 1, h⟩ h1, run1_C m c ⟨n + 1, h⟩ h1]
        exact step m c ⟨n + 1, h⟩ g _ _ hp
      · rw [run0_B m c ⟨n + 1, h⟩ h0 h1, run1_B m c ⟨n + 1, h⟩ h0 h1]
        exact step m c ⟨n + 1, h⟩ g _ _ hp

/-- After a batch's last point it is that of all its regions. -/
theorem whole (c : Dev nD) (g : Fin 500) (t : Fin cfg0.N) (h1 : t.val % 5 = 4) :
    Best (seq (A0 m c) (A2 m c) (A3 m c) (bOf t) g) 5000 (run0 m c t.val t.isLt (ix2 0 g)) (run1 m c t.val t.isLt (ix2 0 g)) := by
  have h := inv m c g t.val t.isLt
  rw [h1] at h
  exact h

/-- Below a threshold is the reference's below. -/
theorem below (c : Dev nD) (g : Fin 500) (t : Fin cfg0.N) (h1 : t.val % 5 = 4) (r : ℝ) (hr : r ≤ 1000000000) :
    (run0 m c t.val t.isLt (ix2 0 g) < (r : EReal)) = (minD (A0 m c) (A2 m c) (A3 m c) (ix2 (bOf t) g) < (r : EReal)) := by
  rw [minD_apply]
  refine propext (((whole m c g t h1).lt_iff r (EReal.coe_le_coe_iff.mpr hr)).trans ?_)
  have e : (fun k : Fin 5000 => seq (A0 m c) (A2 m c) (A3 m c) (bOf t) g k) = fun k => fR (A0 m c) (A2 m c) (A3 m c) (bOf t) k g := by
    funext k
    unfold seq
    rw [dif_pos k.isLt]
  rw [e]

/-- The class of a staged box, as the number the kernel works with. -/
theorem class_block (c : Dev nD) (t : Fin cfg0.N) (g : Fin 500) :
    k0_pay27 (F := Ideal) (iblk m c 2 t) (ix2 0 g) = ((nG (A3 m c) (bOf t) g : ℝ) : EReal) := by
  rw [class2, box_class]

/-- The high marks the kernel computes at a grid point. -/
abbrev hiK (c : Dev nD) (t : Fin cfg0.N) : IVec S1x500 1 :=
  k0_pay9 (F := Ideal) (k0_pay26 (F := Ideal) (iblk m c 2 t)) (run0 m c t.val t.isLt) (k0_pay8 (F := Ideal) (k0_pay27 (F := Ideal) (iblk m c 2 t)))

/-- The medium marks the kernel computes at a grid point. -/
abbrev medK (c : Dev nD) (t : Fin cfg0.N) : IVec S1x500 1 :=
  k0_pay10 (F := Ideal) (k0_pay26 (F := Ideal) (iblk m c 2 t)) (k0_pay27 (F := Ideal) (iblk m c 2 t)) (run0 m c t.val t.isLt)
    (k0_pay8 (F := Ideal) (k0_pay27 (F := Ideal) (iblk m c 2 t))) five

/-- The unmatched marks the kernel computes at a grid point. -/
abbrev missK (c : Dev nD) (t : Fin cfg0.N) : IVec S1x500 1 :=
  k0_pay11 (F := Ideal) (k0_pay26 (F := Ideal) (iblk m c 2 t)) (k0_pay27 (F := Ideal) (iblk m c 2 t)) (run0 m c t.val t.isLt)
    (k0_pay8 (F := Ideal) (k0_pay27 (F := Ideal) (iblk m c 2 t))) five

/-- The near marks the kernel computes at a grid point. -/
abbrev nearK (c : Dev nD) (t : Fin cfg0.N) : IVec S1x500 1 :=
  k0_pay13 (F := Ideal) (k0_pay24 (F := Ideal) (iblk m c 2 t)) (k0_pay25 (F := Ideal) (iblk m c 2 t)) (k0_pay26 (F := Ideal) (iblk m c 2 t))
    (k0_pay27 (F := Ideal) (iblk m c 2 t)) (run0 m c t.val t.isLt) (k0_pay8 (F := Ideal) (k0_pay27 (F := Ideal) (iblk m c 2 t))) five

/-- The far marks the kernel computes at a grid point. -/
abbrev farK (c : Dev nD) (t : Fin cfg0.N) : IVec S1x500 1 :=
  k0_pay14 (F := Ideal) (k0_pay24 (F := Ideal) (iblk m c 2 t)) (k0_pay25 (F := Ideal) (iblk m c 2 t)) (k0_pay26 (F := Ideal) (iblk m c 2 t))
    (k0_pay27 (F := Ideal) (iblk m c 2 t)) (run0 m c t.val t.isLt) (k0_pay8 (F := Ideal) (k0_pay27 (F := Ideal) (iblk m c 2 t))) five

/-- The mid marks the kernel computes at a grid point. -/
abbrev midK (c : Dev nD) (t : Fin cfg0.N) : IVec S1x500 1 :=
  k0_pay15 (F := Ideal) (k0_pay24 (F := Ideal) (iblk m c 2 t)) (k0_pay25 (F := Ideal) (iblk m c 2 t)) (k0_pay26 (F := Ideal) (iblk m c 2 t))
    (k0_pay27 (F := Ideal) (iblk m c 2 t)) (run0 m c t.val t.isLt) (k0_pay8 (F := Ideal) (k0_pay27 (F := Ideal) (iblk m c 2 t))) five

/-- The second result at a box. -/
theorem hiK_eq (c : Dev nD) (g : Fin 500) (t : Fin cfg0.N) (h1 : t.val % 5 = 4) :
    hiK m c t (ix2 0 g) = highR (A0 m c) (A2 m c) (A3 m c) (ix2 (bOf t) g) := by
  unfold hiK
  rw [pay9_apply, highR_apply, pay8_apply _ g _ (class_block m c t g), box_valid, validG_apply, thrH_apply]
  unfold hi
  simp only [below m c g t h1 _ (thrH_le _)]

/-- The third result at a box. -/
theorem medK_eq (c : Dev nD) (g : Fin 500) (t : Fin cfg0.N) (h1 : t.val % 5 = 4) :
    medK m c t (ix2 0 g) = medR (A0 m c) (A2 m c) (A3 m c) (ix2 (bOf t) g) := by
  unfold medK
  rw [pay10_apply _ _ _ _ g _ (class_block m c t g), ← pay9_apply]
  rw [medR_apply, ← hiK_eq m c g t h1, box_valid, validG_apply, thrM_apply]
  unfold med
  simp only [below m c g t h1 _ (thrM_le _)]

/-- The missed boxes. -/
theorem missK_eq (c : Dev nD) (g : Fin 500) (t : Fin cfg0.N) (h1 : t.val % 5 = 4) :
    missK m c t (ix2 0 g) = missR (A0 m c) (A2 m c) (A3 m c) (ix2 (bOf t) g) := by
  unfold missK
  rw [pay11_apply, missR_apply, ← hiK_eq m c g t h1, ← medK_eq m c g t h1, box_valid, validG_apply]
  rfl

/-- The fifth result at a box. -/
theorem nearK_eq (c : Dev nD) (g : Fin 500) (t : Fin cfg0.N) (h1 : t.val % 5 = 4) :
    nearK m c t (ix2 0 g) = nearR (A0 m c) (A2 m c) (A3 m c) (ix2 (bOf t) g) := by
  unfold nearK
  rw [pay13_apply, nearR_apply, ← missK_eq m c g t h1, range_apply, pay24_apply, pay25_apply, iblk2_apply, iblk2_apply]
  rfl

/-- The seventh result at a box. -/
theorem farK_eq (c : Dev nD) (g : Fin 500) (t : Fin cfg0.N) (h1 : t.val % 5 = 4) :
    farK m c t (ix2 0 g) = farR (A0 m c) (A2 m c) (A3 m c) (ix2 (bOf t) g) := by
  unfold farK
  rw [pay14_apply, farR_apply, ← missK_eq m c g t h1, range_apply, pay24_apply, pay25_apply, iblk2_apply, iblk2_apply]
  rfl

/-- The sixth result at a box. -/
theorem midK_eq (c : Dev nD) (g : Fin 500) (t : Fin cfg0.N) (h1 : t.val % 5 = 4) :
    midK m c t (ix2 0 g) = midR (A0 m c) (A2 m c) (A3 m c) (ix2 (bOf t) g) := by
  unfold midK
  rw [pay15_apply, midR_apply, ← missK_eq m c g t h1, ← nearK_eq m c g t h1, ← farK_eq m c g t h1]
  rfl

end Cert.KVal

end
-- ==== Proof.KArr.lean ====
/- What the kernel's result arrays hold after its run. -/
module

public import proofs.«01_k».proof.Proof.KScan
public import Idealize.ShloMosaic.Lib.Pipeline.ValueKit

@[expose] public section

noncomputable section

namespace Cert.KVal

open Cert.KernelIdeal Cert.KernelIdeal.Gen Idealize.ShloMosaic Idealize.ShloMosaic.TcCoe Idealize.SL.Sem Idealize.ShloMosaic.Pipeline Cert.Scal Cert.Scan Cert.Marks Cert.RefVal

variable (m : (ℓ : Loc nD τ sig) → Buf (Elt Ideal) ℓ)

/-- Where output window 3 lies at a grid point. -/
theorem oidx3 : ∀ t : Fin cfg0.N, win0_3.index t (0 : Fin 3) = t.val / 5 ∧ win0_3.index t (1 : Fin 3) = t.val % 5 ∧ win0_3.index t (2 : Fin 3) = 0 :=
  (by decide +kernel : ∀ t : Fin grid0.N, _)

/-- Where output window 10 lies at a grid point. -/
theorem oidx10 : ∀ t : Fin cfg0.N, win0_10.index t (0 : Fin 3) = t.val / 5 ∧ win0_10.index t (1 : Fin 3) = t.val % 5 ∧ win0_10.index t (2 : Fin 3) = 0 :=
  (by decide +kernel : ∀ t : Fin grid0.N, _)

/-- Where output window 4 lies at a grid point. -/
theorem oidx4 : ∀ t : Fin cfg0.N, win0_4.index t (0 : Fin 3) = t.val / 5 ∧ win0_4.index t (1 : Fin 3) = 0 ∧ win0_4.index t (2 : Fin 3) = 0 :=
  (by decide +kernel : ∀ t : Fin grid0.N, _)

/-- Where output window 5 lies at a grid point. -/
theorem oidx5 : ∀ t : Fin cfg0.N, win0_5.index t (0 : Fin 3) = t.val / 5 ∧ win0_5.index t (1 : Fin 3) = 0 ∧ win0_5.index t (2 : Fin 3) = 0 :=
  (by decide +kernel : ∀ t : Fin grid0.N, _)

/-- Where output window 6 lies at a grid point. -/
theorem oidx6 : ∀ t : Fin cfg0.N, win0_6.index t (0 : Fin 3) = t.val / 5 ∧ win0_6.index t (1 : Fin 3) = 0 ∧ win0_6.index t (2 : Fin 3) = 0 :=
  (by decide +kernel : ∀ t : Fin grid0.N, _)

/-- Where output window 7 lies at a grid point. -/
theorem oidx7 : ∀ t : Fin cfg0.N, win0_7.index t (0 : Fin 3) = t.val / 5 ∧ win0_7.index t (1 : Fin 3) = 0 ∧ win0_7.index t (2 : Fin 3) = 0 :=
  (by decide +kernel : ∀ t : Fin grid0.N, _)

/-- Where output window 8 lies at a grid point. -/
theorem oidx8 : ∀ t : Fin cfg0.N, win0_8.index t (0 : Fin 3) = t.val / 5 ∧ win0_8.index t (1 : Fin 3) = 0 ∧ win0_8.index t (2 : Fin 3) = 0 :=
  (by decide +kernel : ∀ t : Fin grid0.N, _)

/-- Where output window 9 lies at a grid point. -/
theorem oidx9 : ∀ t : Fin cfg0.N, win0_9.index t (0 : Fin 3) = t.val / 5 ∧ win0_9.index t (1 : Fin 3) = 0 ∧ win0_9.index t (2 : Fin 3) = 0 :=
  (by decide +kernel : ∀ t : Fin grid0.N, _)

/-- The distances a grid point leaves, whichever tile it is. -/
theorem dist_at (c : Dev nD) (t : Fin cfg0.N) : (outsAt0 m c t.val t.isLt).1 = distB (iblk m c 0 t) (iblk m c 2 t) := by
  by_cases h0 : t.val % 5 = 0
  · exact dist_A m c t h0
  · by_cases h1 : t.val % 5 = 4
    · exact dist_C m c t h1
    · exact dist_B m c t h0 h1

/-- The far-from-every-box marks a grid point leaves, whichever tile it is. -/
theorem fp_at (c : Dev nD) (t : Fin cfg0.N) : (outsAt0 m c t.val t.isLt).2.2.2.2.2.2.2.1 = fpB (iblk m c 0 t) (iblk m c 2 t) := by
  by_cases h0 : t.val % 5 = 0
  · exact fp_A m c t h0
  · by_cases h1 : t.val % 5 = 4
    · exact fp_C m c t h1
    · exact fp_B m c t h0 h1

/-- An index whose first axis has one place. -/
theorem idx_of {n1 n2 : ℕ} (y : (⟨3, ![1, n1, n2]⟩ : Shape).Idx) : ∃ (k : Fin n1) (g : Fin n2), y = ix3 0 k g := by
  refine ⟨y 1, y 2, funext fun a => ?_⟩
  match a with
  | ⟨0, _⟩ => exact Fin.ext (Nat.lt_one_iff.mp (y 0).isLt)
  | ⟨1, _⟩ => rfl
  | ⟨2, _⟩ => rfl

/-- A place of the block of distances, in the whole array. -/
theorem place3 (t : Fin cfg0.N) (k : Fin 1000) (g : Fin 500) : (win0_3.blk t).view.emb (ix3 0 k g) = ix3 (bOf t) (kOf t k) g := by
  obtain ⟨e0, e1, e2⟩ := oidx3 t
  blk_ext [e0, e1, e2]

/-- A place of the block of far-from-every-box marks, in the whole array. -/
theorem place10 (t : Fin cfg0.N) (k : Fin 1000) : (win0_10.blk t).view.emb (ix3 0 k 0) = ix3 (bOf t) (kOf t k) 0 := by
  obtain ⟨e0, e1, e2⟩ := oidx10 t
  blk_ext [e0, e1, e2]

/-- The first array is the reference's first result. -/
theorem arr3 (c : Dev nD) : (dats m 0 c).arrAt 3 cfg0.N = distR (A0 m c) (A3 m c) := by
  refine (dats m 0 c).arrAt_eq_of_covers 3 _ (by decide +kernel) fun t hf y => ?_
  blk_simp
  rw [after0_3, dist_at]
  obtain ⟨k, g, rfl⟩ := idx_of (n1 := 1000) (n2 := 500) y
  refine (distB_apply _ _ k g).trans (Eq.trans ?_ (congrArg (distR (A0 m c) (A3 m c)) (place3 t k g)).symm)
  rw [distR_apply, valid_block, box_valid, block_dist]

/-- The marks of the far regions. -/
theorem arr10 (c : Dev nD) : (dats m 0 c).arrAt 10 cfg0.N =
    fun i : S4x5000x1.Idx => num (fpR (A0 m c) (A3 m c) (ix2 (i 0) (i 1))) := by
  refine (dats m 0 c).arrAt_eq_of_covers 10 _ (by decide +kernel) fun t hf y => ?_
  blk_simp
  rw [after0_10, fp_at]
  obtain ⟨k, g, rfl⟩ := idx_of (n1 := 1000) (n2 := 1) y
  obtain rfl : g = 0 := Subsingleton.elim _ _
  refine (fpB_apply _ _ k).trans (Eq.trans ?_ (congrArg (fun i : S4x5000x1.Idx => num (fpR (A0 m c) (A3 m c) (ix2 (i 0) (i 1)))) (place10 t k)).symm)
  show _ = num (fpR (A0 m c) (A3 m c) (ix2 (bOf t) (kOf t k)))
  rw [fpR_apply]
  unfold num
  simp only [valid_block, box_valid, block_dist]

/-- A row of marks, one for each box of each batch. -/
abbrev row (f : IVec S4x500 1) : FVec Ideal S4x1x500 .f32 := fun i => num (f (ix2 (i 0) (i 2)))

/-- A place of the high row, in the whole array. -/
theorem place4 (t : Fin cfg0.N) (g : Fin 500) : (win0_4.blk t).view.emb (ix3 0 0 g) = ix3 (bOf t) 0 g := by
  obtain ⟨e0, e1, e2⟩ := oidx4 t
  blk_ext [e0, e1, e2]

/-- The array behind the second result. -/
theorem arr4 (c : Dev nD) : (dats m 0 c).arrAt 4 cfg0.N = row (highR (A0 m c) (A2 m c) (A3 m c)) := by
  refine (dats m 0 c).arrAt_eq_of_covers 4 _ (by decide +kernel) fun t hf y => ?_
  have h1 := (flush0_4 t).mp hf
  blk_simp
  rw [after0_4, fin4_C m c t h1, ← run0_C m c t h1]
  obtain ⟨k, g, rfl⟩ := idx_of (n1 := 1) (n2 := 500) y
  obtain rfl : k = 0 := Subsingleton.elim _ _
  refine (pay16_apply _ _ _ g).trans (Eq.trans ?_ (congrArg (row (highR (A0 m c) (A2 m c) (A3 m c))) (place4 t g)).symm)
  exact congrArg num (hiK_eq m c g t h1)

/-- A place of the medium row, in the whole array. -/
theorem place5 (t : Fin cfg0.N) (g : Fin 500) : (win0_5.blk t).view.emb (ix3 0 0 g) = ix3 (bOf t) 0 g := by
  obtain ⟨e0, e1, e2⟩ := oidx5 t
  blk_ext [e0, e1, e2]

/-- The array behind the third result. -/
theorem arr5 (c : Dev nD) : (dats m 0 c).arrAt 5 cfg0.N = row (medR (A0 m c) (A2 m c) (A3 m c)) := by
  refine (dats m 0 c).arrAt_eq_of_covers 5 _ (by decide +kernel) fun t hf y => ?_
  have h1 := (flush0_5 t).mp hf
  blk_simp
  rw [after0_5, fin5_C m c t h1, ← run0_C m c t h1]
  obtain ⟨k, g, rfl⟩ := idx_of (n1 := 1) (n2 := 500) y
  obtain rfl : k = 0 := Subsingleton.elim _ _
  refine (pay17_apply _ _ _ _ g).trans (Eq.trans ?_ (congrArg (row (medR (A0 m c) (A2 m c) (A3 m c))) (place5 t g)).symm)
  exact congrArg num (medK_eq m c g t h1)

/-- A place of the near row, in the whole array. -/
theorem place6 (t : Fin cfg0.N) (g : Fin 500) : (win0_6.blk t).view.emb (ix3 0 0 g) = ix3 (bOf t) 0 g := by
  obtain ⟨e0, e1, e2⟩ := oidx6 t
  blk_ext [e0, e1, e2]

/-- The array behind the fifth result. -/
theorem arr6 (c : Dev nD) : (dats m 0 c).arrAt 6 cfg0.N = row (nearR (A0 m c) (A2 m c) (A3 m c)) := by
  refine (dats m 0 c).arrAt_eq_of_covers 6 _ (by decide +kernel) fun t hf y => ?_
  have h1 := (flush0_6 t).mp hf
  blk_simp
  rw [after0_6, fin6_C m c t h1, ← run0_C m c t h1]
  obtain ⟨k, g, rfl⟩ := idx_of (n1 := 1) (n2 := 500) y
  obtain rfl : k = 0 := Subsingleton.elim _ _
  refine (pay4_apply _ g).trans (Eq.trans ?_ (congrArg (row (nearR (A0 m c) (A2 m c) (A3 m c))) (place6 t g)).symm)
  exact congrArg num (nearK_eq m c g t h1)

/-- A place of the mid row, in the whole array. -/
theorem place7 (t : Fin cfg0.N) (g : Fin 500) : (win0_7.blk t).view.emb (ix3 0 0 g) = ix3 (bOf t) 0 g := by
  obtain ⟨e0, e1, e2⟩ := oidx7 t
  blk_ext [e0, e1, e2]

/-- The array behind the sixth result. -/
theorem arr7 (c : Dev nD) : (dats m 0 c).arrAt 7 cfg0.N = row (midR (A0 m c) (A2 m c) (A3 m c)) := by
  refine (dats m 0 c).arrAt_eq_of_covers 7 _ (by decide +kernel) fun t hf y => ?_
  have h1 := (flush0_7 t).mp hf
  blk_simp
  rw [after0_7, fin7_C m c t h1, ← run0_C m c t h1]
  obtain ⟨k, g, rfl⟩ := idx_of (n1 := 1) (n2 := 500) y
  obtain rfl : k = 0 := Subsingleton.elim _ _
  refine (pay5_apply _ g).trans (Eq.trans ?_ (congrArg (row (midR (A0 m c) (A2 m c) (A3 m c))) (place7 t g)).symm)
  exact congrArg num (midK_eq m c g t h1)

/-- A place of the far row, in the whole array. -/
theorem place8 (t : Fin cfg0.N) (g : Fin 500) : (win0_8.blk t).view.emb (ix3 0 0 g) = ix3 (bOf t) 0 g := by
  obtain ⟨e0, e1, e2⟩ := oidx8 t
  blk_ext [e0, e1, e2]

/-- The array behind the seventh result. -/
theorem arr8 (c : Dev nD) : (dats m 0 c).arrAt 8 cfg0.N = row (farR (A0 m c) (A2 m c) (A3 m c)) := by
  refine (dats m 0 c).arrAt_eq_of_covers 8 _ (by decide +kernel) fun t hf y => ?_
  have h1 := (flush0_8 t).mp hf
  blk_simp
  rw [after0_8, fin8_C m c t h1, ← run0_C m c t h1]
  obtain ⟨k, g, rfl⟩ := idx_of (n1 := 1) (n2 := 500) y
  obtain rfl : k = 0 := Subsingleton.elim _ _
  refine (pay6_apply _ g).trans (Eq.trans ?_ (congrArg (row (farR (A0 m c) (A2 m c) (A3 m c))) (place8 t g)).symm)
  exact congrArg num (farK_eq m c g t h1)

/-- A place of the best-place row, in the whole array. -/
theorem place9 (t : Fin cfg0.N) (g : Fin 500) : (win0_9.blk t).view.emb (ix3 0 0 g) = ix3 (bOf t) 0 g := by
  obtain ⟨e0, e1, e2⟩ := oidx9 t
  blk_ext [e0, e1, e2]

/-- The last point of a batch. -/
abbrev lastOf (b : Fin 4) : Fin cfg0.N := ⟨5 * b.val + 4, lt_of_lt_of_eq (by have := b.isLt; omega) N_0.symm⟩

/-- The last point of a batch is at tile 4. -/
theorem lastOf_mod (b : Fin 4) : (lastOf b).val % 5 = 4 := by
  show (5 * b.val + 4) % 5 = 4
  omega

/-- The last point of a batch lies in that batch. -/
theorem lastOf_batch (b : Fin 4) : bOf (lastOf b) = b := Fin.ext (by show (5 * b.val + 4) / 5 = b.val; omega)

/-- A point at tile 4 is the last of its batch. -/
theorem lastOf_of (t : Fin cfg0.N) (h1 : t.val % 5 = 4) : lastOf (bOf t) = t := Fin.ext (by show 5 * (t.val / 5) + 4 = t.val; omega)

/-- The places after each batch's last point. -/
abbrev places (c : Dev nD) : FVec Ideal S4x1x500 .f32 := fun i => run1 m c (lastOf (i 0)).val (lastOf (i 0)).isLt (ix2 0 (i 2))

/-- The array behind the fourth result. -/
theorem arr9 (c : Dev nD) : (dats m 0 c).arrAt 9 cfg0.N = places m c := by
  refine (dats m 0 c).arrAt_eq_of_covers 9 _ (by decide +kernel) fun t hf y => ?_
  have h1 := (flush0_9 t).mp hf
  blk_simp
  rw [after0_9, fin9_C m c t h1, ← run1_C m c t h1]
  obtain ⟨k, g, rfl⟩ := idx_of (n1 := 1) (n2 := 500) y
  obtain rfl : k = 0 := Subsingleton.elim _ _
  refine (pay7_apply _ g).trans (Eq.trans ?_ (congrArg (places m c) (place9 t g)).symm)
  show _ = run1 m c (lastOf (bOf t)).val (lastOf (bOf t)).isLt (ix2 0 g)
  rw [lastOf_of t h1]

/-- Where the first region of each batch is within reach of a box, the place, as a word, is the reference's fourth result. -/
theorem place_word (c : Dev nD) (b : Fin 4) (g : Fin 500) (hf : seq (A0 m c) (A2 m c) (A3 m c) b g 0 ≤ big) :
    Ideal.fptosi 32 (places m c (ix3 b 0 g)) = bestR (A0 m c) (A2 m c) (A3 m c) (ix2 b g) := by
  obtain ⟨L, hL, hm⟩ := bestR_apply (A0 m c) (A2 m c) (A3 m c) b g
  have h := whole m c g (lastOf b) (lastOf_mod b)
  rw [lastOf_batch] at h
  rw [hL]
  exact h.arg (by norm_num) (by norm_num) hf L hm

end Cert.KVal

end
-- ==== Proof.KRun.lean ====
/- The kernel's run: what each result buffer ends at. -/
module

public import proofs.«01_k».proof.Proof.KArr
public import Idealize.ShloMosaic.Lib.Claim
public import Idealize.ShloMosaic.Lib.StableHlo.ReadAt

@[expose] public section

noncomputable section

namespace Cert.KVal

open Cert.KernelIdeal Cert.KernelIdeal.Gen Idealize.ShloMosaic Idealize.ShloMosaic.TcCoe Idealize.SL.Sem Idealize.ShloMosaic.Pipeline Cert.Scal Cert.Scan Cert.Marks Cert.RefVal

variable (m : (ℓ : Loc nD τ sig) → Buf (Elt Ideal) ℓ)

/-- The buffers as the region leaves them. -/
def leaves (c : Dev nD) : Valuation τ sig (Elt Ideal) :=
  withArrays (cfgs 0).spec c (V0 m c) fun w => (dats m 0 c).arrAt w (cfgs 0).N

/-- The array of window 4 as the region leaves it. -/
theorem leaves4 (c : Dev nD) : leaves m c (Proc.devRef .tc main_v3_1) = (dats m 0 c).arrAt 4 cfg0.N :=
  withArrays_arr (cfgs 0).spec (by decide) c _ _ 4

/-- The array of window 5 as the region leaves it. -/
theorem leaves5 (c : Dev nD) : leaves m c (Proc.devRef .tc main_v3_2) = (dats m 0 c).arrAt 5 cfg0.N :=
  withArrays_arr (cfgs 0).spec (by decide) c _ _ 5

/-- The array of window 6 as the region leaves it. -/
theorem leaves6 (c : Dev nD) : leaves m c (Proc.devRef .tc main_v3_3) = (dats m 0 c).arrAt 6 cfg0.N :=
  withArrays_arr (cfgs 0).spec (by decide) c _ _ 6

/-- The array of window 7 as the region leaves it. -/
theorem leaves7 (c : Dev nD) : leaves m c (Proc.devRef .tc main_v3_4) = (dats m 0 c).arrAt 7 cfg0.N :=
  withArrays_arr (cfgs 0).spec (by decide) c _ _ 7

/-- The array of window 8 as the region leaves it. -/
theorem leaves8 (c : Dev nD) : leaves m c (Proc.devRef .tc main_v3_5) = (dats m 0 c).arrAt 8 cfg0.N :=
  withArrays_arr (cfgs 0).spec (by decide) c _ _ 8

/-- The array of window 9 as the region leaves it. -/
theorem leaves9 (c : Dev nD) : leaves m c (Proc.devRef .tc main_v3_6) = (dats m 0 c).arrAt 9 cfg0.N :=
  withArrays_arr (cfgs 0).spec (by decide) c _ _ 9

/-- The array of window 10 as the region leaves it. -/
theorem leaves10 (c : Dev nD) : leaves m c (Proc.devRef .tc main_v3_7) = (dats m 0 c).arrAt 10 cfg0.N :=
  withArrays_arr (cfgs 0).spec (by decide) c _ _ 10

/-- The result `main_v6` from the array it is read off. -/
theorem tail_v6_of (W : Valuation τ sig (Elt Ideal)) : StableHlo.after hostOps1 W (Proc.devRef .tc main_v6) =
    cmpf (F := Ideal) .une (shapeCast S4x500 (W (Proc.devRef .tc main_v3_1) : FVec Ideal S4x1x500 .f32) shapeCasts_S4x1x500_S4x500)
      (broadcastInDim S4x500 ![] bcast_S_S4x500 (constant S_ .f32 0x00000000#32)) := by
  after_results_simp
  rfl

/-- The result `main_v9` from the array it is read off. -/
theorem tail_v9_of (W : Valuation τ sig (Elt Ideal)) : StableHlo.after hostOps1 W (Proc.devRef .tc main_v9) =
    cmpf (F := Ideal) .une (shapeCast S4x500 (W (Proc.devRef .tc main_v3_2) : FVec Ideal S4x1x500 .f32) shapeCasts_S4x1x500_S4x500)
      (broadcastInDim S4x500 ![] bcast_S_S4x500 (constant S_ .f32 0x00000000#32)) := by
  after_results_simp
  rfl

/-- The result `main_v14` from the array it is read off. -/
theorem tail_v14_of (W : Valuation τ sig (Elt Ideal)) : StableHlo.after hostOps1 W (Proc.devRef .tc main_v14) =
    cmpf (F := Ideal) .une (shapeCast S4x500 (W (Proc.devRef .tc main_v3_3) : FVec Ideal S4x1x500 .f32) shapeCasts_S4x1x500_S4x500)
      (broadcastInDim S4x500 ![] bcast_S_S4x500 (constant S_ .f32 0x00000000#32)) := by
  after_results_simp
  rfl

/-- The result `main_v17` from the array it is read off. -/
theorem tail_v17_of (W : Valuation τ sig (Elt Ideal)) : StableHlo.after hostOps1 W (Proc.devRef .tc main_v17) =
    cmpf (F := Ideal) .une (shapeCast S4x500 (W (Proc.devRef .tc main_v3_4) : FVec Ideal S4x1x500 .f32) shapeCasts_S4x1x500_S4x500)
      (broadcastInDim S4x500 ![] bcast_S_S4x500 (constant S_ .f32 0x00000000#32)) := by
  after_results_simp
  rfl

/-- The result `main_v20` from the array it is read off. -/
theorem tail_v20_of (W : Valuation τ sig (Elt Ideal)) : StableHlo.after hostOps1 W (Proc.devRef .tc main_v20) =
    cmpf (F := Ideal) .une (shapeCast S4x500 (W (Proc.devRef .tc main_v3_5) : FVec Ideal S4x1x500 .f32) shapeCasts_S4x1x500_S4x500)
      (broadcastInDim S4x500 ![] bcast_S_S4x500 (constant S_ .f32 0x00000000#32)) := by
  after_results_simp
  rfl

/-- The result `main_v23` from the array it is read off. -/
theorem tail_v23_of (W : Valuation τ sig (Elt Ideal)) : StableHlo.after hostOps1 W (Proc.devRef .tc main_v23) =
    cmpf (F := Ideal) .une (shapeCast S4x5000 (W (Proc.devRef .tc main_v3_7) : FVec Ideal S4x5000x1 .f32) shapeCasts_S4x5000x1_S4x5000)
      (broadcastInDim S4x5000 ![] bcast_S_S4x5000 (constant S_ .f32 0x00000000#32)) := by
  after_results_simp
  rfl

/-- The result `main_v11` from the array it is read off. -/
theorem tail_v11_of (W : Valuation τ sig (Elt Ideal)) : StableHlo.after hostOps1 W (Proc.devRef .tc main_v11) =
    fptosi (F := Ideal) (φ := .f32) 32 (shapeCast S4x500 (W (Proc.devRef .tc main_v3_6) : FVec Ideal S4x1x500 .f32) shapeCasts_S4x1x500_S4x500) := by
  after_results_simp
  rfl

/-- A one-row plane of marks, reshaped to a matrix and compared to zero, is the marks again. -/
theorem unmark (f : S4x500.Idx → BitVec 1) :
    cmpf (F := Ideal) .une (shapeCast S4x500 (row f) shapeCasts_S4x1x500_S4x500)
      (broadcastInDim S4x500 ![] bcast_S_S4x500 (constant S_ .f32 0x00000000#32)) = f := by
  funext i
  idx_vars i
  pointwise [row, num]
  exact bit_back _

/-- The result `main_v6` after the operations that follow the region. -/
theorem tail_v6 (c : Dev nD) :
    Pipeline.afterTail₀ cfgs (dats m) 0 (V0 m) [hostOps1] c main_v6 = highR (A0 m c) (A2 m c) (A3 m c) := by
  refine (tail_v6_of (leaves m c)).trans ?_
  rw [leaves4, arr4]
  exact unmark _

/-- The result `main_v9` after the operations that follow the region. -/
theorem tail_v9 (c : Dev nD) :
    Pipeline.afterTail₀ cfgs (dats m) 0 (V0 m) [hostOps1] c main_v9 = medR (A0 m c) (A2 m c) (A3 m c) := by
  refine (tail_v9_of (leaves m c)).trans ?_
  rw [leaves5, arr5]
  exact unmark _

/-- The result `main_v14` after the operations that follow the region. -/
theorem tail_v14 (c : Dev nD) :
    Pipeline.afterTail₀ cfgs (dats m) 0 (V0 m) [hostOps1] c main_v14 = nearR (A0 m c) (A2 m c) (A3 m c) := by
  refine (tail_v14_of (leaves m c)).trans ?_
  rw [leaves6, arr6]
  exact unmark _

/-- The result `main_v17` after the operations that follow the region. -/
theorem tail_v17 (c : Dev nD) :
    Pipeline.afterTail₀ cfgs (dats m) 0 (V0 m) [hostOps1] c main_v17 = midR (A0 m c) (A2 m c) (A3 m c) := by
  refine (tail_v17_of (leaves m c)).trans ?_
  rw [leaves7, arr7]
  exact unmark _

/-- The result `main_v20` after the operations that follow the region. -/
theorem tail_v20 (c : Dev nD) :
    Pipeline.afterTail₀ cfgs (dats m) 0 (V0 m) [hostOps1] c main_v20 = farR (A0 m c) (A2 m c) (A3 m c) := by
  refine (tail_v20_of (leaves m c)).trans ?_
  rw [leaves8, arr8]
  exact unmark _

/-- A column of marks, reshaped to a matrix and compared to zero, is the marks again. -/
theorem unmark_fp (f : S4x5000.Idx → BitVec 1) :
    cmpf (F := Ideal) .une (shapeCast S4x5000 (fun i : S4x5000x1.Idx => num (f (ix2 (i 0) (i 1)))) shapeCasts_S4x5000x1_S4x5000)
      (broadcastInDim S4x5000 ![] bcast_S_S4x5000 (constant S_ .f32 0x00000000#32)) = f := by
  funext i
  idx_vars i
  pointwise [num]
  exact bit_back _

/-- The result `main_v23` after the operations that follow the region. -/
theorem tail_v23 (c : Dev nD) :
    Pipeline.afterTail₀ cfgs (dats m) 0 (V0 m) [hostOps1] c main_v23 = fpR (A0 m c) (A3 m c) := by
  refine (tail_v23_of (leaves m c)).trans ?_
  rw [leaves10, arr10]
  exact unmark_fp _

/-- The best regions the kernel answers. -/
def word (c : Dev nD) : IVec S4x500 32 := fun i => Ideal.fptosi 32 (places m c (ix3 (i 0) 0 (i 1)))

/-- The result `main_v11` after the operations that follow the region. -/
theorem tail_v11 (c : Dev nD) :
    Pipeline.afterTail₀ cfgs (dats m) 0 (V0 m) [hostOps1] c main_v11 = word m c := by
  refine (tail_v11_of (leaves m c)).trans ?_
  rw [leaves9, arr9]
  funext i
  idx_vars i
  unfold word
  pointwise []
  rfl

/-- The best region of a box that region 0 of its batch reaches is the reference's. -/
theorem word_eq (c : Dev nD) (b : Fin 4) (g : Fin 500) (hf : seq (A0 m c) (A2 m c) (A3 m c) b g 0 ≤ big) :
    word m c (ix2 b g) = bestR (A0 m c) (A2 m c) (A3 m c) (ix2 b g) := place_word m c b g hf

/-- The kernel's run: all results but the best regions are the reference's stages of the arguments, and the arguments end as launched. -/
theorem run (ρ : Dev nD → PrngReg) :
    θ_run defs (onTc (τ := τ) (main (F := Ideal))) ⟨m, fun _ => 0, ρ⟩ fun r => ∀ c : Dev nD,
      r.2.mem ((c.tc : Thread nD τ).loc main_v3_0) = distR (A0 m c) (A3 m c)
      ∧ r.2.mem ((c.tc : Thread nD τ).loc main_v6) = highR (A0 m c) (A2 m c) (A3 m c)
      ∧ r.2.mem ((c.tc : Thread nD τ).loc main_v9) = medR (A0 m c) (A2 m c) (A3 m c)
      ∧ r.2.mem ((c.tc : Thread nD τ).loc main_v11) = word m c
      ∧ r.2.mem ((c.tc : Thread nD τ).loc main_v14) = nearR (A0 m c) (A2 m c) (A3 m c)
      ∧ r.2.mem ((c.tc : Thread nD τ).loc main_v17) = midR (A0 m c) (A2 m c) (A3 m c)
      ∧ r.2.mem ((c.tc : Thread nD τ).loc main_v20) = farR (A0 m c) (A2 m c) (A3 m c)
      ∧ r.2.mem ((c.tc : Thread nD τ).loc main_v23) = fpR (A0 m c) (A3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 3).trans (arr3 m c),
      ((h c).2 main_v6 (mem_restRefs_of main_v6 (by decide) (by decide))).trans (tail_v6 m c),
      ((h c).2 main_v9 (mem_restRefs_of main_v9 (by decide) (by decide))).trans (tail_v9 m c),
      ((h c).2 main_v11 (mem_restRefs_of main_v11 (by decide) (by decide))).trans (tail_v11 m c),
      ((h c).2 main_v14 (mem_restRefs_of main_v14 (by decide) (by decide))).trans (tail_v14 m c),
      ((h c).2 main_v17 (mem_restRefs_of main_v17 (by decide) (by decide))).trans (tail_v17 m c),
      ((h c).2 main_v20 (mem_restRefs_of main_v20 (by decide) (by decide))).trans (tail_v20 m c),
      ((h c).2 main_v23 (mem_restRefs_of main_v23 (by decide) (by decide))).trans (tail_v23 m c),
      ((h c).1 0).trans (((dats m 0 c).arrAt_in 0 rfl _).trans ((A_eq m c 0).trans (V_main_arg0 m c))),
      ((h c).2 main_arg1 (mem_restRefs_of main_arg1 (by decide) (by decide))).trans (W_main_arg1 m (dats m) c),
      ((h c).2 main_arg2 (mem_restRefs_of main_arg2 (by decide) (by decide))).trans (W_main_arg2 m (dats m) c),
      ((h c).2 main_arg3 (mem_restRefs_of main_arg3 (by decide) (by decide))).trans (W_main_arg3 m (dats m) c),
      ((h c).2 main_arg4 (mem_restRefs_of main_arg4 (by decide) (by decide))).trans (W_main_arg4 m (dats m) c)⟩) (run_main m ρ)

end Cert.KVal

end
-- ==== Proof.Algebraic.lean ====
/- The kernel and the reference compute the same results. -/
module

public import proofs.«01_k».proof.Defs
public import proofs.«01_k».proof.Proof.KRun

@[expose] public section

noncomputable section

/-! ## The shapes of the precondition and of the mask -/

namespace Cert.Pre_first_in_reach.Gen

/-- The shapes the precondition's operations take fit. -/
instance facts : Cert.Pre_first_in_reach.Facts where
  slices_S4x5000x9_S4x1x1_0_0_0 := by decide
  shapeCasts_S4x1x1_S4x1 := by decide
  slices_S4x500x10_S4x500x1_0_0_0 := by decide
  shapeCasts_S4x500x1_S4x500 := by decide
  bcast_S4x1_S4x500_0_1 := by decide
  slices_S4x5000x9_S4x1x1_0_0_1 := by decide
  slices_S4x500x10_S4x500x1_0_0_1 := by decide
  bcast_S_S4x500 := by decide

end Cert.Pre_first_in_reach.Gen

namespace Cert.On_index_in_reach.Gen

/-- The shapes the mask's operations take fit. -/
instance facts : Cert.On_index_in_reach.Facts where
  bcast_S_S4x5000x500 := by decide
  bcast_S_S4x500 := by decide
  slices_S4x5000x9_S4x1x1_0_0_0 := by decide
  shapeCasts_S4x1x1_S4x1 := by decide
  slices_S4x500x10_S4x500x1_0_0_0 := by decide
  shapeCasts_S4x500x1_S4x500 := by decide
  bcast_S4x1_S4x500_0_1 := by decide
  slices_S4x5000x9_S4x1x1_0_0_1 := by decide
  slices_S4x500x10_S4x500x1_0_0_1 := by decide
  bcast_S_S4x5000 := by decide

end Cert.On_index_in_reach.Gen

namespace Cert.Proof

open Cert.KernelIdeal Idealize.ShloMosaic Idealize.ShloMosaic.TcCoe Idealize.SL.Sem Cert.Scal Cert.Scan Cert.RefVal Cert.KVal

/-- The precondition at one box: region 0 is at most `big` away from it. -/
theorem reach_apply (x0 : FVec Ideal S4x5000x9 .f32) (x1 : FVec Ideal S4x5000 .f32) (x2 : IVec S4x5000 32)
    (x3 : FVec Ideal S4x500x10 .f32) (x4 : IVec S_ 32) (b : Fin 4) (g : Fin 500) :
    Cert.Pre_first_in_reach.fn x0 x1 x2 x3 x4 (ix2 b g) = BitVec.ofBool (decide (dRG x0 x3 b 0 g ≤ big)) := by
  unfold Cert.Pre_first_in_reach.fn
  pointwise [dRG, dst]
  rw [c_big]
  rfl

/-- Where region 0 reaches a box, the first entry of the box's column of matching distances is at most `big`. -/
theorem first_le (m : (ℓ : Loc nD τ sig) → Buf (Elt Ideal) ℓ) (c : Dev nD) (b : Fin 4) (g : Fin 500)
    (h : dRG (A0 m c) (A3 m c) b 0 g ≤ big) : RefVal.seq (A0 m c) (A2 m c) (A3 m c) b g 0 ≤ big := by
  unfold RefVal.seq fR
  rw [dif_pos (by decide)]
  split
  · exact h
  · exact le_rfl

/-- A box at which the predicate is one has the kernel's best region equal to the reference's. -/
theorem word_of_reach (m : (ℓ : Loc nD τ sig) → Buf (Elt Ideal) ℓ) (c : Dev nD) (i : S4x500.Idx)
    (h : Cert.Pre_first_in_reach.fn (A0 m c) (m ((c : Thread nD τ).loc main_arg1)) (A2 m c) (A3 m c)
      (m ((c : Thread nD τ).loc main_arg4)) i = 1#1) :
    word m c i = bestR (A0 m c) (A2 m c) (A3 m c) i := by
  idx_vars i
  rw [reach_apply, ofBool_one] at h
  exact word_eq m c _ _ (first_le m c _ _ h)

/-- The reference's run on the kernel's arguments. -/
theorem ref_run (m : (ℓ : Loc nD τ sig) → Buf (Elt Ideal) ℓ)
    (m' : (ℓ : Loc Cert.ReferenceIdeal.nD Cert.ReferenceIdeal.τ Cert.ReferenceIdeal.sig) → Buf (Elt Ideal) ℓ)
    (g' : Dev Cert.ReferenceIdeal.nD → PrngReg)
    (a0 : ∀ c : Dev nD, m' ((c.tc : Thread Cert.ReferenceIdeal.nD Cert.ReferenceIdeal.τ).loc Cert.ReferenceIdeal.main_arg0) = A0 m c)
    (a2 : ∀ c : Dev nD, m' ((c.tc : Thread Cert.ReferenceIdeal.nD Cert.ReferenceIdeal.τ).loc Cert.ReferenceIdeal.main_arg2) = A2 m c)
    (a3 : ∀ c : Dev nD, m' ((c.tc : Thread Cert.ReferenceIdeal.nD Cert.ReferenceIdeal.τ).loc Cert.ReferenceIdeal.main_arg3) = A3 m c) :
    θ_run Cert.ReferenceIdeal.defs (onTc (τ := Cert.ReferenceIdeal.τ) (Cert.ReferenceIdeal.main (F := Ideal))) ⟨m', fun _ => 0, g'⟩ fun r => ∀ c : Dev Cert.ReferenceIdeal.nD,
      r.2.mem ((c.tc : Thread Cert.ReferenceIdeal.nD Cert.ReferenceIdeal.τ).loc Cert.ReferenceIdeal.main_v21) = distR (A0 m c) (A3 m c)
      ∧ r.2.mem ((c.tc : Thread Cert.ReferenceIdeal.nD Cert.ReferenceIdeal.τ).loc Cert.ReferenceIdeal.main_v65) = highR (A0 m c) (A2 m c) (A3 m c)
      ∧ r.2.mem ((c.tc : Thread Cert.ReferenceIdeal.nD Cert.ReferenceIdeal.τ).loc Cert.ReferenceIdeal.main_v69) = medR (A0 m c) (A2 m c) (A3 m c)
      ∧ r.2.mem ((c.tc : Thread Cert.ReferenceIdeal.nD Cert.ReferenceIdeal.τ).loc Cert.ReferenceIdeal.main_v49) = bestR (A0 m c) (A2 m c) (A3 m c)
      ∧ r.2.mem ((c.tc : Thread Cert.ReferenceIdeal.nD Cert.ReferenceIdeal.τ).loc Cert.ReferenceIdeal.main_v84) = nearR (A0 m c) (A2 m c) (A3 m c)
      ∧ r.2.mem ((c.tc : Thread Cert.ReferenceIdeal.nD Cert.ReferenceIdeal.τ).loc Cert.ReferenceIdeal.main_v91) = midR (A0 m c) (A2 m c) (A3 m c)
      ∧ r.2.mem ((c.tc : Thread Cert.ReferenceIdeal.nD Cert.ReferenceIdeal.τ).loc Cert.ReferenceIdeal.main_v87) = farR (A0 m c) (A2 m c) (A3 m c)
      ∧ r.2.mem ((c.tc : Thread Cert.ReferenceIdeal.nD Cert.ReferenceIdeal.τ).loc Cert.ReferenceIdeal.main_v96) = fpR (A0 m c) (A3 m c)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4) := by
  refine (θ_run _ _ _).mono (fun r h c => ?_) (RefVal.run m' g')
  rw [← a0 c, ← a2 c, ← a3 c]
  exact h c

/-- On the same arguments, where region 0 of each batch reaches every box of it, the kernel and the reference end with
    the same eight results. -/
theorem algebraic : Cert.algebraic_KernelIdeal_ReferenceIdeal_pre_first_in_reach := by
  intro m g m' g' hpre hagree
  refine ⟨_, _, _, _, _, _, _, _, KVal.run m g, ?_⟩
  refine (θ_run _ _ _).mono (fun r h c => ?_) (ref_run m m' g' (fun c => (hagree c).1) (fun c => (hagree c).2.2.1) (fun c => (hagree c).2.2.2.1))
  obtain ⟨h0, h1, h2, h3, h4⟩ := h c
  exact ⟨h0, h1, h2, h3.trans (funext fun i => (word_of_reach m c i (congrFun (hpre c) i)).symm), h4⟩

/-- On the same arguments, whatever they are, the kernel and the reference end with the same results but the best
    regions, and with the same best region of every box that region 0 of its batch reaches. -/
theorem algebraic_on : Cert.algebraic_KernelIdeal_ReferenceIdeal_on_index_in_reach := by
  intro m g m' g' _ hagree
  refine ⟨fun c => distR (A0 m c) (A3 m c), fun c => highR (A0 m c) (A2 m c) (A3 m c), fun c => medR (A0 m c) (A2 m c) (A3 m c),
    fun c => word m c, fun c => nearR (A0 m c) (A2 m c) (A3 m c), fun c => midR (A0 m c) (A2 m c) (A3 m c),
    fun c => farR (A0 m c) (A2 m c) (A3 m c), fun c => fpR (A0 m c) (A3 m c), ?_, ?_⟩
  · refine (θ_run _ _ _).mono (fun r h c => ?_) (KVal.run m g)
    obtain ⟨h0, h1, h2, h3, h4, h5, h6, h7, ha⟩ := h c
    exact ⟨fun i _ => congrFun h0 i, fun i _ => congrFun h1 i, fun i _ => congrFun h2 i, fun i _ => congrFun h3 i,
      fun i _ => congrFun h4 i, fun i _ => congrFun h5 i, fun i _ => congrFun h6 i, fun i _ => congrFun h7 i, ha⟩
  · refine (θ_run _ _ _).mono (fun r h c => ?_) (ref_run m m' g' (fun c => (hagree c).1) (fun c => (hagree c).2.2.1) (fun c => (hagree c).2.2.2.1))
    obtain ⟨h0, h1, h2, h3, h4, h5, h6, h7, ha⟩ := h c
    exact ⟨fun i _ => congrFun h0 i, fun i _ => congrFun h1 i, fun i _ => congrFun h2 i,
      fun i hi => (congrFun h3 i).trans (word_of_reach m c i hi).symm,
      fun i _ => congrFun h4 i, fun i _ => congrFun h5 i, fun i _ => congrFun h6 i, fun i _ => congrFun h7 i, ha⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The three frames, the kernel kept as it is, and its results equal to the reference's. -/
theorem claim : Cert.Claim := ⟨Cert.Kernel.Gen.facts, Cert.KernelIdeal.Gen.facts, Cert.ReferenceIdeal.Gen.facts,
  Cert.Pre_first_in_reach.Gen.facts, Cert.On_index_in_reach.Gen.facts,
  fun m ρ _ => Cert.Kernel.Gen.frame m ρ, fun m ρ _ => Cert.KernelIdeal.Gen.frame m ρ, fun m ρ _ => Cert.KernelIdeal.Gen.frame m ρ,
  Cert.RefVal.quiet, fun m ρ _ => Cert.RefVal.quiet m ρ trivial, trivial, algebraic, algebraic_on⟩

end Cert.Proof

end
